-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S16x16384x3 : Shape := ⟨3, ![16, 16384, 3]⟩
abbrev S_ : Shape := ⟨0, ![]⟩
abbrev S16x16384 : Shape := ⟨2, ![16, 16384]⟩
abbrev S16x1x3 : Shape := ⟨3, ![16, 1, 3]⟩
abbrev S16 : Shape := ⟨1, ![16]⟩
abbrev S16x1 : Shape := ⟨2, ![16, 1]⟩
abbrev S16x3 : Shape := ⟨2, ![16, 3]⟩

class Facts : Prop where
  bcast_S_S16x16384 : S_.BroadcastsInDim S16x16384 (![] : Fin 0 → Fin S16x16384.rank)
  slices_S16x16384x3_S16x1x3_0_0_0 : S16x16384x3.Slices ![0, 0, 0] S16x1x3
  bcast_S_S16 : S_.BroadcastsInDim S16 (![] : Fin 0 → Fin S16.rank)
  bcast_S16x1x3_S16x16384x3_0_1_2 : S16x1x3.BroadcastsInDim S16x16384x3 (![0, 1, 2] : Fin 3 → Fin S16x16384x3.rank)
  reducesTo_S16x16384x3_S16x16384_d2 : S16x16384x3.ReducesTo [2] S16x16384
  h_S_ : 0 < S_.numel
  reducesTo_S16x16384_S16_d1 : S16x16384.ReducesTo [1] S16
  bcast_S16_S16x1_0 : S16.BroadcastsInDim S16x1 (![0] : Fin 1 → Fin S16x1.rank)
  bcast_S16x1_S16x16384_0_1 : S16x1.BroadcastsInDim S16x16384 (![0, 1] : Fin 2 → Fin S16x16384.rank)
  natLt_1_32 : 1 < 32
  bcast_S16x16384_S16x16384x3_0_1 : S16x16384.BroadcastsInDim S16x16384x3 (![0, 1] : Fin 2 → Fin S16x16384x3.rank)
  bcast_S_S16x16384x3 : S_.BroadcastsInDim S16x16384x3 (![] : Fin 0 → Fin S16x16384x3.rank)
  reducesTo_S16x16384x3_S16x3_d1 : S16x16384x3.ReducesTo [1] S16x3
  bcast_S16x3_S16x1x3_0_2 : S16x3.BroadcastsInDim S16x1x3 (![0, 2] : Fin 2 → Fin S16x1x3.rank)

variable [Facts]

def fn_pre_16_part16 {F : FTy → Type} [FloatOps F] (arg0 : FVec F S16x16384x3 .f32) (v279 : IVec S16 1) (v289 : FVec F S16x16384 .f32) (v291 : FVec F S16x1 .f32) : FVec F S16x16384 .f32 × FVec F S16x1x3 .f32 × IVec S16 1 :=
  let v292 : FVec F S16x16384 .f32 := broadcastInDim S16x16384 ![0, 1] bcast_S16x1_S16x16384_0_1 v291
  let v293 : IVec S16x16384 1 := cmpf .oeq v289 v292
  let v294 : IVec S16x16384 32 := (extui 32 · natLt_1_32) v293
  let c_90 : IVec S_ 32 := constantI S_ 32 0#32
  let v295 : IVec S16 32 := (fun x v => Host.reduce IntOp.addi x v reducesTo_S16x16384_S16_d1 h_S_) v294 c_90
  let c_91 : IVec S_ 32 := constantI S_ 32 1#32
  let v296 : IVec S16 32 := broadcastInDim S16 ![] bcast_S_S16 c_91
  let v297 : IVec S16 1 := cmpi .eq v295 v296
  let v298 : IVec S16 1 := andi v279 v297
  let v299 : IVec S16x16384x3 1 := broadcastInDim S16x16384x3 ![0, 1] bcast_S16x16384_S16x16384x3_0_1 v293
  let cst_92 : FVec F S_ .f32 := constant S_ .f32 0xFF800000#32
  let v300 : FVec F S16x16384x3 .f32 := broadcastInDim S16x16384x3 ![] bcast_S_S16x16384x3 cst_92
  let v301 : FVec F S16x16384x3 .f32 := select v299 arg0 v300
  let cst_93 : FVec F S_ .f32 := constant S_ .f32 0xFF800000#32
  let v302 : FVec F S16x3 .f32 := (fun x v => Host.reduce FloatOps.maximumf x v reducesTo_S16x16384x3_S16x3_d1 h_S_) v301 cst_93
  let v303 : FVec F S16x1x3 .f32 := broadcastInDim S16x1x3 ![0, 2] bcast_S16x3_S16x1x3_0_2 v302
  (v289, v303, v298)

def fn_pre_16_part15 {F : FTy → Type} [FloatOps F] (arg0 : FVec F S16x16384x3 .f32) (v260 : IVec S16 1) (v270 : FVec F S16x16384 .f32) (v273 : FVec F S16x16384 .f32) : FVec F S16x16384 .f32 × FVec F S16x1x3 .f32 × IVec S16 1 :=
  let v274 : IVec S16x16384 1 := cmpf .oeq v270 v273
  let v275 : IVec S16x16384 32 := (extui 32 · natLt_1_32) v274
  let c_84 : IVec S_ 32 := constantI S_ 32 0#32
  let v276 : IVec S16 32 := (fun x v => Host.reduce IntOp.addi x v reducesTo_S16x16384_S16_d1 h_S_) v275 c_84
  let c_85 : IVec S_ 32 := constantI S_ 32 1#32
  let v277 : IVec S16 32 := broadcastInDim S16 ![] bcast_S_S16 c_85
  let v278 : IVec S16 1 := cmpi .eq v276 v277
  let v279 : IVec S16 1 := andi v260 v278
  let v280 : IVec S16x16384x3 1 := broadcastInDim S16x16384x3 ![0, 1] bcast_S16x16384_S16x16384x3_0_1 v274
  let cst_86 : FVec F S_ .f32 := constant S_ .f32 0xFF800000#32
  let v281 : FVec F S16x16384x3 .f32 := broadcastInDim S16x16384x3 ![] bcast_S_S16x16384x3 cst_86
  let v282 : FVec F S16x16384x3 .f32 := select v280 arg0 v281
  let cst_87 : FVec F S_ .f32 := constant S_ .f32 0xFF800000#32
  let v283 : FVec F S16x3 .f32 := (fun x v => Host.reduce FloatOps.maximumf x v reducesTo_S16x16384x3_S16x3_d1 h_S_) v282 cst_87
  let v284 : FVec F S16x1x3 .f32 := broadcastInDim S16x1x3 ![0, 2] bcast_S16x3_S16x1x3_0_2 v283
  let v285 : FVec F S16x16384x3 .f32 := broadcastInDim S16x16384x3 ![0, 1, 2] bcast_S16x1x3_S16x16384x3_0_1_2 v284
  let v286 : FVec F S16x16384x3 .f32 := subf arg0 v285
  let v287 : FVec F S16x16384x3 .f32 := mulf v286 v286
  let cst_88 : FVec F S_ .f32 := constant S_ .f32 0x00000000#32
  let v288 : FVec F S16x16384 .f32 := (fun x v => Host.reduceAdd x v reducesTo_S16x16384x3_S16x16384_d2 h_S_) v287 cst_88
  let v289 : FVec F S16x16384 .f32 := minimumf v270 v288
  let cst_89 : FVec F S_ .f32 := constant S_ .f32 0xFF800000#32
  let v290 : FVec F S16 .f32 := (fun x v => Host.reduce FloatOps.maximumf x v reducesTo_S16x16384_S16_d1 h_S_) v289 cst_89
  let v291 : FVec F S16x1 .f32 := broadcastInDim S16x1 ![0] bcast_S16_S16x1_0 v290
  fn_pre_16_part16 (F := F) arg0 v279 v289 v291

def fn_pre_16_part14 {F : FTy → Type} [FloatOps F] (arg0 : FVec F S16x16384x3 .f32) (v241 : IVec S16 1) (v251 : FVec F S16x16384 .f32) (v255 : IVec S16x16384 1) : FVec F S16x16384 .f32 × FVec F S16x1x3 .f32 × IVec S16 1 :=
  let v256 : IVec S16x16384 32 := (extui 32 · natLt_1_32) v255
  let c_78 : IVec S_ 32 := constantI S_ 32 0#32
  let v257 : IVec S16 32 := (fun x v => Host.reduce IntOp.addi x v reducesTo_S16x16384_S16_d1 h_S_) v256 c_78
  let c_79 : IVec S_ 32 := constantI S_ 32 1#32
  let v258 : IVec S16 32 := broadcastInDim S16 ![] bcast_S_S16 c_79
  let v259 : IVec S16 1 := cmpi .eq v257 v258
  let v260 : IVec S16 1 := andi v241 v259
  let v261 : IVec S16x16384x3 1 := broadcastInDim S16x16384x3 ![0, 1] bcast_S16x16384_S16x16384x3_0_1 v255
  let cst_80 : FVec F S_ .f32 := constant S_ .f32 0xFF800000#32
  let v262 : FVec F S16x16384x3 .f32 := broadcastInDim S16x16384x3 ![] bcast_S_S16x16384x3 cst_80
  let v263 : FVec F S16x16384x3 .f32 := select v261 arg0 v262
  let cst_81 : FVec F S_ .f32 := constant S_ .f32 0xFF800000#32
  let v264 : FVec F S16x3 .f32 := (fun x v => Host.reduce FloatOps.maximumf x v reducesTo_S16x16384x3_S16x3_d1 h_S_) v263 cst_81
  let v265 : FVec F S16x1x3 .f32 := broadcastInDim S16x1x3 ![0, 2] bcast_S16x3_S16x1x3_0_2 v264
  let v266 : FVec F S16x16384x3 .f32 := broadcastInDim S16x16384x3 ![0, 1, 2] bcast_S16x1x3_S16x16384x3_0_1_2 v265
  let v267 : FVec F S16x16384x3 .f32 := subf arg0 v266
  let v268 : FVec F S16x16384x3 .f32 := mulf v267 v267
  let cst_82 : FVec F S_ .f32 := constant S_ .f32 0x00000000#32
  let v269 : FVec F S16x16384 .f32 := (fun x v => Host.reduceAdd x v reducesTo_S16x16384x3_S16x16384_d2 h_S_) v268 cst_82
  let v270 : FVec F S16x16384 .f32 := minimumf v251 v269
  let cst_83 : FVec F S_ .f32 := constant S_ .f32 0xFF800000#32
  let v271 : FVec F S16 .f32 := (fun x v => Host.reduce FloatOps.maximumf x v reducesTo_S16x16384_S16_d1 h_S_) v270 cst_83
  let v272 : FVec F S16x1 .f32 := broadcastInDim S16x1 ![0] bcast_S16_S16x1_0 v271
  let v273 : FVec F S16x16384 .f32 := broadcastInDim S16x16384 ![0, 1] bcast_S16x1_S16x16384_0_1 v272
  fn_pre_16_part15 (F := F) arg0 v260 v270 v273

def fn_pre_16_part13 {F : FTy → Type} [FloatOps F] (arg0 : FVec F S16x16384x3 .f32) (v222 : IVec S16 1) (v232 : FVec F S16x16384 .f32) (v236 : IVec S16x16384 1) (v237 : IVec S16x16384 32) : FVec F S16x16384 .f32 × FVec F S16x1x3 .f32 × IVec S16 1 :=
  let c_72 : IVec S_ 32 := constantI S_ 32 0#32
  let v238 : IVec S16 32 := (fun x v => Host.reduce IntOp.addi x v reducesTo_S16x16384_S16_d1 h_S_) v237 c_72
  let c_73 : IVec S_ 32 := constantI S_ 32 1#32
  let v239 : IVec S16 32 := broadcastInDim S16 ![] bcast_S_S16 c_73
  let v240 : IVec S16 1 := cmpi .eq v238 v239
  let v241 : IVec S16 1 := andi v222 v240
  let v242 : IVec S16x16384x3 1 := broadcastInDim S16x16384x3 ![0, 1] bcast_S16x16384_S16x16384x3_0_1 v236
  let cst_74 : FVec F S_ .f32 := constant S_ .f32 0xFF800000#32
  let v243 : FVec F S16x16384x3 .f32 := broadcastInDim S16x16384x3 ![] bcast_S_S16x16384x3 cst_74
  let v244 : FVec F S16x16384x3 .f32 := select v242 arg0 v243
  let cst_75 : FVec F S_ .f32 := constant S_ .f32 0xFF800000#32
  let v245 : FVec F S16x3 .f32 := (fun x v => Host.reduce FloatOps.maximumf x v reducesTo_S16x16384x3_S16x3_d1 h_S_) v244 cst_75
  let v246 : FVec F S16x1x3 .f32 := broadcastInDim S16x1x3 ![0, 2] bcast_S16x3_S16x1x3_0_2 v245
  let v247 : FVec F S16x16384x3 .f32 := broadcastInDim S16x16384x3 ![0, 1, 2] bcast_S16x1x3_S16x16384x3_0_1_2 v246
  let v248 : FVec F S16x16384x3 .f32 := subf arg0 v247
  let v249 : FVec F S16x16384x3 .f32 := mulf v248 v248
  let cst_76 : FVec F S_ .f32 := constant S_ .f32 0x00000000#32
  let v250 : FVec F S16x16384 .f32 := (fun x v => Host.reduceAdd x v reducesTo_S16x16384x3_S16x16384_d2 h_S_) v249 cst_76
  let v251 : FVec F S16x16384 .f32 := minimumf v232 v250
  let cst_77 : FVec F S_ .f32 := constant S_ .f32 0xFF800000#32
  let v252 : FVec F S16 .f32 := (fun x v => Host.reduce FloatOps.maximumf x v reducesTo_S16x16384_S16_d1 h_S_) v251 cst_77
  let v253 : FVec F S16x1 .f32 := broadcastInDim S16x1 ![0] bcast_S16_S16x1_0 v252
  let v254 : FVec F S16x16384 .f32 := broadcastInDim S16x16384 ![0, 1] bcast_S16x1_S16x16384_0_1 v253
  let v255 : IVec S16x16384 1 := cmpf .oeq v251 v254
  fn_pre_16_part14 (F := F) arg0 v241 v251 v255

def fn_pre_16_part12 {F : FTy → Type} [FloatOps F] (arg0 : FVec F S16x16384x3 .f32) (v203 : IVec S16 1) (v213 : FVec F S16x16384 .f32) (v217 : IVec S16x16384 1) (v218 : IVec S16x16384 32) (c_66 : IVec S_ 32) : FVec F S16x16384 .f32 × FVec F S16x1x3 .f32 × IVec S16 1 :=
  let v219 : IVec S16 32 := (fun x v => Host.reduce IntOp.addi x v reducesTo_S16x16384_S16_d1 h_S_) v218 c_66
  let c_67 : IVec S_ 32 := constantI S_ 32 1#32
  let v220 : IVec S16 32 := broadcastInDim S16 ![] bcast_S_S16 c_67
  let v221 : IVec S16 1 := cmpi .eq v219 v220
  let v222 : IVec S16 1 := andi v203 v221
  let v223 : IVec S16x16384x3 1 := broadcastInDim S16x16384x3 ![0, 1] bcast_S16x16384_S16x16384x3_0_1 v217
  let cst_68 : FVec F S_ .f32 := constant S_ .f32 0xFF800000#32
  let v224 : FVec F S16x16384x3 .f32 := broadcastInDim S16x16384x3 ![] bcast_S_S16x16384x3 cst_68
  let v225 : FVec F S16x16384x3 .f32 := select v223 arg0 v224
  let cst_69 : FVec F S_ .f32 := constant S_ .f32 0xFF800000#32
  let v226 : FVec F S16x3 .f32 := (fun x v => Host.reduce FloatOps.maximumf x v reducesTo_S16x16384x3_S16x3_d1 h_S_) v225 cst_69
  let v227 : FVec F S16x1x3 .f32 := broadcastInDim S16x1x3 ![0, 2] bcast_S16x3_S16x1x3_0_2 v226
  let v228 : FVec F S16x16384x3 .f32 := broadcastInDim S16x16384x3 ![0, 1, 2] bcast_S16x1x3_S16x16384x3_0_1_2 v227
  let v229 : FVec F S16x16384x3 .f32 := subf arg0 v228
  let v230 : FVec F S16x16384x3 .f32 := mulf v229 v229
  let cst_70 : FVec F S_ .f32 := constant S_ .f32 0x00000000#32
  let v231 : FVec F S16x16384 .f32 := (fun x v => Host.reduceAdd x v reducesTo_S16x16384x3_S16x16384_d2 h_S_) v230 cst_70
  let v232 : FVec F S16x16384 .f32 := minimumf v213 v231
  let cst_71 : FVec F S_ .f32 := constant S_ .f32 0xFF800000#32
  let v233 : FVec F S16 .f32 := (fun x v => Host.reduce FloatOps.maximumf x v reducesTo_S16x16384_S16_d1 h_S_) v232 cst_71
  let v234 : FVec F S16x1 .f32 := broadcastInDim S16x1 ![0] bcast_S16_S16x1_0 v233
  let v235 : FVec F S16x16384 .f32 := broadcastInDim S16x16384 ![0, 1] bcast_S16x1_S16x16384_0_1 v234
  let v236 : IVec S16x16384 1 := cmpf .oeq v232 v235
  let v237 : IVec S16x16384 32 := (extui 32 · natLt_1_32) v236
  fn_pre_16_part13 (F := F) arg0 v222 v232 v236 v237

def fn_pre_16_part11 {F : FTy → Type} [FloatOps F] (arg0 : FVec F S16x16384x3 .f32) (v184 : IVec S16 1) (v194 : FVec F S16x16384 .f32) (v198 : IVec S16x16384 1) (v200 : IVec S16 32) : FVec F S16x16384 .f32 × FVec F S16x1x3 .f32 × IVec S16 1 :=
  let c_61 : IVec S_ 32 := constantI S_ 32 1#32
  let v201 : IVec S16 32 := broadcastInDim S16 ![] bcast_S_S16 c_61
  let v202 : IVec S16 1 := cmpi .eq v200 v201
  let v203 : IVec S16 1 := andi v184 v202
  let v204 : IVec S16x16384x3 1 := broadcastInDim S16x16384x3 ![0, 1] bcast_S16x16384_S16x16384x3_0_1 v198
  let cst_62 : FVec F S_ .f32 := constant S_ .f32 0xFF800000#32
  let v205 : FVec F S16x16384x3 .f32 := broadcastInDim S16x16384x3 ![] bcast_S_S16x16384x3 cst_62
  let v206 : FVec F S16x16384x3 .f32 := select v204 arg0 v205
  let cst_63 : FVec F S_ .f32 := constant S_ .f32 0xFF800000#32
  let v207 : FVec F S16x3 .f32 := (fun x v => Host.reduce FloatOps.maximumf x v reducesTo_S16x16384x3_S16x3_d1 h_S_) v206 cst_63
  let v208 : FVec F S16x1x3 .f32 := broadcastInDim S16x1x3 ![0, 2] bcast_S16x3_S16x1x3_0_2 v207
  let v209 : FVec F S16x16384x3 .f32 := broadcastInDim S16x16384x3 ![0, 1, 2] bcast_S16x1x3_S16x16384x3_0_1_2 v208
  let v210 : FVec F S16x16384x3 .f32 := subf arg0 v209
  let v211 : FVec F S16x16384x3 .f32 := mulf v210 v210
  let cst_64 : FVec F S_ .f32 := constant S_ .f32 0x00000000#32
  let v212 : FVec F S16x16384 .f32 := (fun x v => Host.reduceAdd x v reducesTo_S16x16384x3_S16x16384_d2 h_S_) v211 cst_64
  let v213 : FVec F S16x16384 .f32 := minimumf v194 v212
  let cst_65 : FVec F S_ .f32 := constant S_ .f32 0xFF800000#32
  let v214 : FVec F S16 .f32 := (fun x v => Host.reduce FloatOps.maximumf x v reducesTo_S16x16384_S16_d1 h_S_) v213 cst_65
  let v215 : FVec F S16x1 .f32 := broadcastInDim S16x1 ![0] bcast_S16_S16x1_0 v214
  let v216 : FVec F S16x16384 .f32 := broadcastInDim S16x16384 ![0, 1] bcast_S16x1_S16x16384_0_1 v215
  let v217 : IVec S16x16384 1 := cmpf .oeq v213 v216
  let v218 : IVec S16x16384 32 := (extui 32 · natLt_1_32) v217
  let c_66 : IVec S_ 32 := constantI S_ 32 0#32
  fn_pre_16_part12 (F := F) arg0 v203 v213 v217 v218 c_66

def fn_pre_16_part10 {F : FTy → Type} [FloatOps F] (arg0 : FVec F S16x16384x3 .f32) (v165 : IVec S16 1) (v175 : FVec F S16x16384 .f32) (v179 : IVec S16x16384 1) (v181 : IVec S16 32) (c_55 : IVec S_ 32) : FVec F S16x16384 .f32 × FVec F S16x1x3 .f32 × IVec S16 1 :=
  let v182 : IVec S16 32 := broadcastInDim S16 ![] bcast_S_S16 c_55
  let v183 : IVec S16 1 := cmpi .eq v181 v182
  let v184 : IVec S16 1 := andi v165 v183
  let v185 : IVec S16x16384x3 1 := broadcastInDim S16x16384x3 ![0, 1] bcast_S16x16384_S16x16384x3_0_1 v179
  let cst_56 : FVec F S_ .f32 := constant S_ .f32 0xFF800000#32
  let v186 : FVec F S16x16384x3 .f32 := broadcastInDim S16x16384x3 ![] bcast_S_S16x16384x3 cst_56
  let v187 : FVec F S16x16384x3 .f32 := select v185 arg0 v186
  let cst_57 : FVec F S_ .f32 := constant S_ .f32 0xFF800000#32
  let v188 : FVec F S16x3 .f32 := (fun x v => Host.reduce FloatOps.maximumf x v reducesTo_S16x16384x3_S16x3_d1 h_S_) v187 cst_57
  let v189 : FVec F S16x1x3 .f32 := broadcastInDim S16x1x3 ![0, 2] bcast_S16x3_S16x1x3_0_2 v188
  let v190 : FVec F S16x16384x3 .f32 := broadcastInDim S16x16384x3 ![0, 1, 2] bcast_S16x1x3_S16x16384x3_0_1_2 v189
  let v191 : FVec F S16x16384x3 .f32 := subf arg0 v190
  let v192 : FVec F S16x16384x3 .f32 := mulf v191 v191
  let cst_58 : FVec F S_ .f32 := constant S_ .f32 0x00000000#32
  let v193 : FVec F S16x16384 .f32 := (fun x v => Host.reduceAdd x v reducesTo_S16x16384x3_S16x16384_d2 h_S_) v192 cst_58
  let v194 : FVec F S16x16384 .f32 := minimumf v175 v193
  let cst_59 : FVec F S_ .f32 := constant S_ .f32 0xFF800000#32
  let v195 : FVec F S16 .f32 := (fun x v => Host.reduce FloatOps.maximumf x v reducesTo_S16x16384_S16_d1 h_S_) v194 cst_59
  let v196 : FVec F S16x1 .f32 := broadcastInDim S16x1 ![0] bcast_S16_S16x1_0 v195
  let v197 : FVec F S16x16384 .f32 := broadcastInDim S16x16384 ![0, 1] bcast_S16x1_S16x16384_0_1 v196
  let v198 : IVec S16x16384 1 := cmpf .oeq v194 v197
  let v199 : IVec S16x16384 32 := (extui 32 · natLt_1_32) v198
  let c_60 : IVec S_ 32 := constantI S_ 32 0#32
  let v200 : IVec S16 32 := (fun x v => Host.reduce IntOp.addi x v reducesTo_S16x16384_S16_d1 h_S_) v199 c_60
  fn_pre_16_part11 (F := F) arg0 v184 v194 v198 v200

def fn_pre_16_part9 {F : FTy → Type} [FloatOps F] (arg0 : FVec F S16x16384x3 .f32) (v146 : IVec S16 1) (v156 : FVec F S16x16384 .f32) (v160 : IVec S16x16384 1) (v162 : IVec S16 32) (v163 : IVec S16 32) : FVec F S16x16384 .f32 × FVec F S16x1x3 .f32 × IVec S16 1 :=
  let v164 : IVec S16 1 := cmpi .eq v162 v163
  let v165 : IVec S16 1 := andi v146 v164
  let v166 : IVec S16x16384x3 1 := broadcastInDim S16x16384x3 ![0, 1] bcast_S16x16384_S16x16384x3_0_1 v160
  let cst_50 : FVec F S_ .f32 := constant S_ .f32 0xFF800000#32
  let v167 : FVec F S16x16384x3 .f32 := broadcastInDim S16x16384x3 ![] bcast_S_S16x16384x3 cst_50
  let v168 : FVec F S16x16384x3 .f32 := select v166 arg0 v167
  let cst_51 : FVec F S_ .f32 := constant S_ .f32 0xFF800000#32
  let v169 : FVec F S16x3 .f32 := (fun x v => Host.reduce FloatOps.maximumf x v reducesTo_S16x16384x3_S16x3_d1 h_S_) v168 cst_51
  let v170 : FVec F S16x1x3 .f32 := broadcastInDim S16x1x3 ![0, 2] bcast_S16x3_S16x1x3_0_2 v169
  let v171 : FVec F S16x16384x3 .f32 := broadcastInDim S16x16384x3 ![0, 1, 2] bcast_S16x1x3_S16x16384x3_0_1_2 v170
  let v172 : FVec F S16x16384x3 .f32 := subf arg0 v171
  let v173 : FVec F S16x16384x3 .f32 := mulf v172 v172
  let cst_52 : FVec F S_ .f32 := constant S_ .f32 0x00000000#32
  let v174 : FVec F S16x16384 .f32 := (fun x v => Host.reduceAdd x v reducesTo_S16x16384x3_S16x16384_d2 h_S_) v173 cst_52
  let v175 : FVec F S16x16384 .f32 := minimumf v156 v174
  let cst_53 : FVec F S_ .f32 := constant S_ .f32 0xFF800000#32
  let v176 : FVec F S16 .f32 := (fun x v => Host.reduce FloatOps.maximumf x v reducesTo_S16x16384_S16_d1 h_S_) v175 cst_53
  let v177 : FVec F S16x1 .f32 := broadcastInDim S16x1 ![0] bcast_S16_S16x1_0 v176
  let v178 : FVec F S16x16384 .f32 := broadcastInDim S16x16384 ![0, 1] bcast_S16x1_S16x16384_0_1 v177
  let v179 : IVec S16x16384 1 := cmpf .oeq v175 v178
  let v180 : IVec S16x16384 32 := (extui 32 · natLt_1_32) v179
  let c_54 : IVec S_ 32 := constantI S_ 32 0#32
  let v181 : IVec S16 32 := (fun x v => Host.reduce IntOp.addi x v reducesTo_S16x16384_S16_d1 h_S_) v180 c_54
  let c_55 : IVec S_ 32 := constantI S_ 32 1#32
  fn_pre_16_part10 (F := F) arg0 v165 v175 v179 v181 c_55

def fn_pre_16_part8 {F : FTy → Type} [FloatOps F] (arg0 : FVec F S16x16384x3 .f32) (v127 : IVec S16 1) (v137 : FVec F S16x16384 .f32) (v141 : IVec S16x16384 1) (v145 : IVec S16 1) : FVec F S16x16384 .f32 × FVec F S16x1x3 .f32 × IVec S16 1 :=
  let v146 : IVec S16 1 := andi v127 v145
  let v147 : IVec S16x16384x3 1 := broadcastInDim S16x16384x3 ![0, 1] bcast_S16x16384_S16x16384x3_0_1 v141
  let cst_44 : FVec F S_ .f32 := constant S_ .f32 0xFF800000#32
  let v148 : FVec F S16x16384x3 .f32 := broadcastInDim S16x16384x3 ![] bcast_S_S16x16384x3 cst_44
  let v149 : FVec F S16x16384x3 .f32 := select v147 arg0 v148
  let cst_45 : FVec F S_ .f32 := constant S_ .f32 0xFF800000#32
  let v150 : FVec F S16x3 .f32 := (fun x v => Host.reduce FloatOps.maximumf x v reducesTo_S16x16384x3_S16x3_d1 h_S_) v149 cst_45
  let v151 : FVec F S16x1x3 .f32 := broadcastInDim S16x1x3 ![0, 2] bcast_S16x3_S16x1x3_0_2 v150
  let v152 : FVec F S16x16384x3 .f32 := broadcastInDim S16x16384x3 ![0, 1, 2] bcast_S16x1x3_S16x16384x3_0_1_2 v151
  let v153 : FVec F S16x16384x3 .f32 := subf arg0 v152
  let v154 : FVec F S16x16384x3 .f32 := mulf v153 v153
  let cst_46 : FVec F S_ .f32 := constant S_ .f32 0x00000000#32
  let v155 : FVec F S16x16384 .f32 := (fun x v => Host.reduceAdd x v reducesTo_S16x16384x3_S16x16384_d2 h_S_) v154 cst_46
  let v156 : FVec F S16x16384 .f32 := minimumf v137 v155
  let cst_47 : FVec F S_ .f32 := constant S_ .f32 0xFF800000#32
  let v157 : FVec F S16 .f32 := (fun x v => Host.reduce FloatOps.maximumf x v reducesTo_S16x16384_S16_d1 h_S_) v156 cst_47
  let v158 : FVec F S16x1 .f32 := broadcastInDim S16x1 ![0] bcast_S16_S16x1_0 v157
  let v159 : FVec F S16x16384 .f32 := broadcastInDim S16x16384 ![0, 1] bcast_S16x1_S16x16384_0_1 v158
  let v160 : IVec S16x16384 1 := cmpf .oeq v156 v159
  let v161 : IVec S16x16384 32 := (extui 32 · natLt_1_32) v160
  let c_48 : IVec S_ 32 := constantI S_ 32 0#32
  let v162 : IVec S16 32 := (fun x v => Host.reduce IntOp.addi x v reducesTo_S16x16384_S16_d1 h_S_) v161 c_48
  let c_49 : IVec S_ 32 := constantI S_ 32 1#32
  let v163 : IVec S16 32 := broadcastInDim S16 ![] bcast_S_S16 c_49
  fn_pre_16_part9 (F := F) arg0 v146 v156 v160 v162 v163

def fn_pre_16_part7 {F : FTy → Type} [FloatOps F] (arg0 : FVec F S16x16384x3 .f32) (v118 : FVec F S16x16384 .f32) (v122 : IVec S16x16384 1) (v127 : IVec S16 1) : FVec F S16x16384 .f32 × FVec F S16x1x3 .f32 × IVec S16 1 :=
  let v128 : IVec S16x16384x3 1 := broadcastInDim S16x16384x3 ![0, 1] bcast_S16x16384_S16x16384x3_0_1 v122
  let cst_38 : FVec F S_ .f32 := constant S_ .f32 0xFF800000#32
  let v129 : FVec F S16x16384x3 .f32 := broadcastInDim S16x16384x3 ![] bcast_S_S16x16384x3 cst_38
  let v130 : FVec F S16x16384x3 .f32 := select v128 arg0 v129
  let cst_39 : FVec F S_ .f32 := constant S_ .f32 0xFF800000#32
  let v131 : FVec F S16x3 .f32 := (fun x v => Host.reduce FloatOps.maximumf x v reducesTo_S16x16384x3_S16x3_d1 h_S_) v130 cst_39
  let v132 : FVec F S16x1x3 .f32 := broadcastInDim S16x1x3 ![0, 2] bcast_S16x3_S16x1x3_0_2 v131
  let v133 : FVec F S16x16384x3 .f32 := broadcastInDim S16x16384x3 ![0, 1, 2] bcast_S16x1x3_S16x16384x3_0_1_2 v132
  let v134 : FVec F S16x16384x3 .f32 := subf arg0 v133
  let v135 : FVec F S16x16384x3 .f32 := mulf v134 v134
  let cst_40 : FVec F S_ .f32 := constant S_ .f32 0x00000000#32
  let v136 : FVec F S16x16384 .f32 := (fun x v => Host.reduceAdd x v reducesTo_S16x16384x3_S16x16384_d2 h_S_) v135 cst_40
  let v137 : FVec F S16x16384 .f32 := minimumf v118 v136
  let cst_41 : FVec F S_ .f32 := constant S_ .f32 0xFF800000#32
  let v138 : FVec F S16 .f32 := (fun x v => Host.reduce FloatOps.maximumf x v reducesTo_S16x16384_S16_d1 h_S_) v137 cst_41
  let v139 : FVec F S16x1 .f32 := broadcastInDim S16x1 ![0] bcast_S16_S16x1_0 v138
  let v140 : FVec F S16x16384 .f32 := broadcastInDim S16x16384 ![0, 1] bcast_S16x1_S16x16384_0_1 v139
  let v141 : IVec S16x16384 1 := cmpf .oeq v137 v140
  let v142 : IVec S16x16384 32 := (extui 32 · natLt_1_32) v141
  let c_42 : IVec S_ 32 := constantI S_ 32 0#32
  let v143 : IVec S16 32 := (fun x v => Host.reduce IntOp.addi x v reducesTo_S16x16384_S16_d1 h_S_) v142 c_42
  let c_43 : IVec S_ 32 := constantI S_ 32 1#32
  let v144 : IVec S16 32 := broadcastInDim S16 ![] bcast_S_S16 c_43
  let v145 : IVec S16 1 := cmpi .eq v143 v144
  fn_pre_16_part8 (F := F) arg0 v127 v137 v141 v145

def fn_pre_16_part6 {F : FTy → Type} [FloatOps F] (arg0 : FVec F S16x16384x3 .f32) (v99 : FVec F S16x16384 .f32) (v108 : IVec S16 1) (v109 : IVec S16x16384x3 1) : FVec F S16x16384 .f32 × FVec F S16x1x3 .f32 × IVec S16 1 :=
  let cst_32 : FVec F S_ .f32 := constant S_ .f32 0xFF800000#32
  let v110 : FVec F S16x16384x3 .f32 := broadcastInDim S16x16384x3 ![] bcast_S_S16x16384x3 cst_32
  let v111 : FVec F S16x16384x3 .f32 := select v109 arg0 v110
  let cst_33 : FVec F S_ .f32 := constant S_ .f32 0xFF800000#32
  let v112 : FVec F S16x3 .f32 := (fun x v => Host.reduce FloatOps.maximumf x v reducesTo_S16x16384x3_S16x3_d1 h_S_) v111 cst_33
  let v113 : FVec F S16x1x3 .f32 := broadcastInDim S16x1x3 ![0, 2] bcast_S16x3_S16x1x3_0_2 v112
  let v114 : FVec F S16x16384x3 .f32 := broadcastInDim S16x16384x3 ![0, 1, 2] bcast_S16x1x3_S16x16384x3_0_1_2 v113
  let v115 : FVec F S16x16384x3 .f32 := subf arg0 v114
  let v116 : FVec F S16x16384x3 .f32 := mulf v115 v115
  let cst_34 : FVec F S_ .f32 := constant S_ .f32 0x00000000#32
  let v117 : FVec F S16x16384 .f32 := (fun x v => Host.reduceAdd x v reducesTo_S16x16384x3_S16x16384_d2 h_S_) v116 cst_34
  let v118 : FVec F S16x16384 .f32 := minimumf v99 v117
  let cst_35 : FVec F S_ .f32 := constant S_ .f32 0xFF800000#32
  let v119 : FVec F S16 .f32 := (fun x v => Host.reduce FloatOps.maximumf x v reducesTo_S16x16384_S16_d1 h_S_) v118 cst_35
  let v120 : FVec F S16x1 .f32 := broadcastInDim S16x1 ![0] bcast_S16_S16x1_0 v119
  let v121 : FVec F S16x16384 .f32 := broadcastInDim S16x16384 ![0, 1] bcast_S16x1_S16x16384_0_1 v120
  let v122 : IVec S16x16384 1 := cmpf .oeq v118 v121
  let v123 : IVec S16x16384 32 := (extui 32 · natLt_1_32) v122
  let c_36 : IVec S_ 32 := constantI S_ 32 0#32
  let v124 : IVec S16 32 := (fun x v => Host.reduce IntOp.addi x v reducesTo_S16x16384_S16_d1 h_S_) v123 c_36
  let c_37 : IVec S_ 32 := constantI S_ 32 1#32
  let v125 : IVec S16 32 := broadcastInDim S16 ![] bcast_S_S16 c_37
  let v126 : IVec S16 1 := cmpi .eq v124 v125
  let v127 : IVec S16 1 := andi v108 v126
  fn_pre_16_part7 (F := F) arg0 v118 v122 v127

def fn_pre_16_part5 {F : FTy → Type} [FloatOps F] (arg0 : FVec F S16x16384x3 .f32) (v80 : FVec F S16x16384 .f32) (v89 : IVec S16 1) (v90 : IVec S16x16384x3 1) (cst_26 : FVec F S_ .f32) : FVec F S16x16384 .f32 × FVec F S16x1x3 .f32 × IVec S16 1 :=
  let v91 : FVec F S16x16384x3 .f32 := broadcastInDim S16x16384x3 ![] bcast_S_S16x16384x3 cst_26
  let v92 : FVec F S16x16384x3 .f32 := select v90 arg0 v91
  let cst_27 : FVec F S_ .f32 := constant S_ .f32 0xFF800000#32
  let v93 : FVec F S16x3 .f32 := (fun x v => Host.reduce FloatOps.maximumf x v reducesTo_S16x16384x3_S16x3_d1 h_S_) v92 cst_27
  let v94 : FVec F S16x1x3 .f32 := broadcastInDim S16x1x3 ![0, 2] bcast_S16x3_S16x1x3_0_2 v93
  let v95 : FVec F S16x16384x3 .f32 := broadcastInDim S16x16384x3 ![0, 1, 2] bcast_S16x1x3_S16x16384x3_0_1_2 v94
  let v96 : FVec F S16x16384x3 .f32 := subf arg0 v95
  let v97 : FVec F S16x16384x3 .f32 := mulf v96 v96
  let cst_28 : FVec F S_ .f32 := constant S_ .f32 0x00000000#32
  let v98 : FVec F S16x16384 .f32 := (fun x v => Host.reduceAdd x v reducesTo_S16x16384x3_S16x16384_d2 h_S_) v97 cst_28
  let v99 : FVec F S16x16384 .f32 := minimumf v80 v98
  let cst_29 : FVec F S_ .f32 := constant S_ .f32 0xFF800000#32
  let v100 : FVec F S16 .f32 := (fun x v => Host.reduce FloatOps.maximumf x v reducesTo_S16x16384_S16_d1 h_S_) v99 cst_29
  let v101 : FVec F S16x1 .f32 := broadcastInDim S16x1 ![0] bcast_S16_S16x1_0 v100
  let v102 : FVec F S16x16384 .f32 := broadcastInDim S16x16384 ![0, 1] bcast_S16x1_S16x16384_0_1 v101
  let v103 : IVec S16x16384 1 := cmpf .oeq v99 v102
  let v104 : IVec S16x16384 32 := (extui 32 · natLt_1_32) v103
  let c_30 : IVec S_ 32 := constantI S_ 32 0#32
  let v105 : IVec S16 32 := (fun x v => Host.reduce IntOp.addi x v reducesTo_S16x16384_S16_d1 h_S_) v104 c_30
  let c_31 : IVec S_ 32 := constantI S_ 32 1#32
  let v106 : IVec S16 32 := broadcastInDim S16 ![] bcast_S_S16 c_31
  let v107 : IVec S16 1 := cmpi .eq v105 v106
  let v108 : IVec S16 1 := andi v89 v107
  let v109 : IVec S16x16384x3 1 := broadcastInDim S16x16384x3 ![0, 1] bcast_S16x16384_S16x16384x3_0_1 v103
  fn_pre_16_part6 (F := F) arg0 v99 v108 v109

def fn_pre_16_part4 {F : FTy → Type} [FloatOps F] (arg0 : FVec F S16x16384x3 .f32) (v61 : FVec F S16x16384 .f32) (v70 : IVec S16 1) (v71 : IVec S16x16384x3 1) (v72 : FVec F S16x16384x3 .f32) : FVec F S16x16384 .f32 × FVec F S16x1x3 .f32 × IVec S16 1 :=
  let v73 : FVec F S16x16384x3 .f32 := select v71 arg0 v72
  let cst_21 : FVec F S_ .f32 := constant S_ .f32 0xFF800000#32
  let v74 : FVec F S16x3 .f32 := (fun x v => Host.reduce FloatOps.maximumf x v reducesTo_S16x16384x3_S16x3_d1 h_S_) v73 cst_21
  let v75 : FVec F S16x1x3 .f32 := broadcastInDim S16x1x3 ![0, 2] bcast_S16x3_S16x1x3_0_2 v74
  let v76 : FVec F S16x16384x3 .f32 := broadcastInDim S16x16384x3 ![0, 1, 2] bcast_S16x1x3_S16x16384x3_0_1_2 v75
  let v77 : FVec F S16x16384x3 .f32 := subf arg0 v76
  let v78 : FVec F S16x16384x3 .f32 := mulf v77 v77
  let cst_22 : FVec F S_ .f32 := constant S_ .f32 0x00000000#32
  let v79 : FVec F S16x16384 .f32 := (fun x v => Host.reduceAdd x v reducesTo_S16x16384x3_S16x16384_d2 h_S_) v78 cst_22
  let v80 : FVec F S16x16384 .f32 := minimumf v61 v79
  let cst_23 : FVec F S_ .f32 := constant S_ .f32 0xFF800000#32
  let v81 : FVec F S16 .f32 := (fun x v => Host.reduce FloatOps.maximumf x v reducesTo_S16x16384_S16_d1 h_S_) v80 cst_23
  let v82 : FVec F S16x1 .f32 := broadcastInDim S16x1 ![0] bcast_S16_S16x1_0 v81
  let v83 : FVec F S16x16384 .f32 := broadcastInDim S16x16384 ![0, 1] bcast_S16x1_S16x16384_0_1 v82
  let v84 : IVec S16x16384 1 := cmpf .oeq v80 v83
  let v85 : IVec S16x16384 32 := (extui 32 · natLt_1_32) v84
  let c_24 : IVec S_ 32 := constantI S_ 32 0#32
  let v86 : IVec S16 32 := (fun x v => Host.reduce IntOp.addi x v reducesTo_S16x16384_S16_d1 h_S_) v85 c_24
  let c_25 : IVec S_ 32 := constantI S_ 32 1#32
  let v87 : IVec S16 32 := broadcastInDim S16 ![] bcast_S_S16 c_25
  let v88 : IVec S16 1 := cmpi .eq v86 v87
  let v89 : IVec S16 1 := andi v70 v88
  let v90 : IVec S16x16384x3 1 := broadcastInDim S16x16384x3 ![0, 1] bcast_S16x16384_S16x16384x3_0_1 v84
  let cst_26 : FVec F S_ .f32 := constant S_ .f32 0xFF800000#32
  fn_pre_16_part5 (F := F) arg0 v80 v89 v90 cst_26

def fn_pre_16_part3 {F : FTy → Type} [FloatOps F] (arg0 : FVec F S16x16384x3 .f32) (v42 : FVec F S16x16384 .f32) (v51 : IVec S16 1) (v54 : FVec F S16x16384x3 .f32) : FVec F S16x16384 .f32 × FVec F S16x1x3 .f32 × IVec S16 1 :=
  let cst_15 : FVec F S_ .f32 := constant S_ .f32 0xFF800000#32
  let v55 : FVec F S16x3 .f32 := (fun x v => Host.reduce FloatOps.maximumf x v reducesTo_S16x16384x3_S16x3_d1 h_S_) v54 cst_15
  let v56 : FVec F S16x1x3 .f32 := broadcastInDim S16x1x3 ![0, 2] bcast_S16x3_S16x1x3_0_2 v55
  let v57 : FVec F S16x16384x3 .f32 := broadcastInDim S16x16384x3 ![0, 1, 2] bcast_S16x1x3_S16x16384x3_0_1_2 v56
  let v58 : FVec F S16x16384x3 .f32 := subf arg0 v57
  let v59 : FVec F S16x16384x3 .f32 := mulf v58 v58
  let cst_16 : FVec F S_ .f32 := constant S_ .f32 0x00000000#32
  let v60 : FVec F S16x16384 .f32 := (fun x v => Host.reduceAdd x v reducesTo_S16x16384x3_S16x16384_d2 h_S_) v59 cst_16
  let v61 : FVec F S16x16384 .f32 := minimumf v42 v60
  let cst_17 : FVec F S_ .f32 := constant S_ .f32 0xFF800000#32
  let v62 : FVec F S16 .f32 := (fun x v => Host.reduce FloatOps.maximumf x v reducesTo_S16x16384_S16_d1 h_S_) v61 cst_17
  let v63 : FVec F S16x1 .f32 := broadcastInDim S16x1 ![0] bcast_S16_S16x1_0 v62
  let v64 : FVec F S16x16384 .f32 := broadcastInDim S16x16384 ![0, 1] bcast_S16x1_S16x16384_0_1 v63
  let v65 : IVec S16x16384 1 := cmpf .oeq v61 v64
  let v66 : IVec S16x16384 32 := (extui 32 · natLt_1_32) v65
  let c_18 : IVec S_ 32 := constantI S_ 32 0#32
  let v67 : IVec S16 32 := (fun x v => Host.reduce IntOp.addi x v reducesTo_S16x16384_S16_d1 h_S_) v66 c_18
  let c_19 : IVec S_ 32 := constantI S_ 32 1#32
  let v68 : IVec S16 32 := broadcastInDim S16 ![] bcast_S_S16 c_19
  let v69 : IVec S16 1 := cmpi .eq v67 v68
  let v70 : IVec S16 1 := andi v51 v69
  let v71 : IVec S16x16384x3 1 := broadcastInDim S16x16384x3 ![0, 1] bcast_S16x16384_S16x16384x3_0_1 v65
  let cst_20 : FVec F S_ .f32 := constant S_ .f32 0xFF800000#32
  let v72 : FVec F S16x16384x3 .f32 := broadcastInDim S16x16384x3 ![] bcast_S_S16x16384x3 cst_20
  fn_pre_16_part4 (F := F) arg0 v61 v70 v71 v72

def fn_pre_16_part2 {F : FTy → Type} [FloatOps F] (arg0 : FVec F S16x16384x3 .f32) (v23 : FVec F S16x16384 .f32) (v32 : IVec S16 1) (v35 : FVec F S16x16384x3 .f32) (cst_9 : FVec F S_ .f32) : FVec F S16x16384 .f32 × FVec F S16x1x3 .f32 × IVec S16 1 :=
  let v36 : FVec F S16x3 .f32 := (fun x v => Host.reduce FloatOps.maximumf x v reducesTo_S16x16384x3_S16x3_d1 h_S_) v35 cst_9
  let v37 : FVec F S16x1x3 .f32 := broadcastInDim S16x1x3 ![0, 2] bcast_S16x3_S16x1x3_0_2 v36
  let v38 : FVec F S16x16384x3 .f32 := broadcastInDim S16x16384x3 ![0, 1, 2] bcast_S16x1x3_S16x16384x3_0_1_2 v37
  let v39 : FVec F S16x16384x3 .f32 := subf arg0 v38
  let v40 : FVec F S16x16384x3 .f32 := mulf v39 v39
  let cst_10 : FVec F S_ .f32 := constant S_ .f32 0x00000000#32
  let v41 : FVec F S16x16384 .f32 := (fun x v => Host.reduceAdd x v reducesTo_S16x16384x3_S16x16384_d2 h_S_) v40 cst_10
  let v42 : FVec F S16x16384 .f32 := minimumf v23 v41
  let cst_11 : FVec F S_ .f32 := constant S_ .f32 0xFF800000#32
  let v43 : FVec F S16 .f32 := (fun x v => Host.reduce FloatOps.maximumf x v reducesTo_S16x16384_S16_d1 h_S_) v42 cst_11
  let v44 : FVec F S16x1 .f32 := broadcastInDim S16x1 ![0] bcast_S16_S16x1_0 v43
  let v45 : FVec F S16x16384 .f32 := broadcastInDim S16x16384 ![0, 1] bcast_S16x1_S16x16384_0_1 v44
  let v46 : IVec S16x16384 1 := cmpf .oeq v42 v45
  let v47 : IVec S16x16384 32 := (extui 32 · natLt_1_32) v46
  let c_12 : IVec S_ 32 := constantI S_ 32 0#32
  let v48 : IVec S16 32 := (fun x v => Host.reduce IntOp.addi x v reducesTo_S16x16384_S16_d1 h_S_) v47 c_12
  let c_13 : IVec S_ 32 := constantI S_ 32 1#32
  let v49 : IVec S16 32 := broadcastInDim S16 ![] bcast_S_S16 c_13
  let v50 : IVec S16 1 := cmpi .eq v48 v49
  let v51 : IVec S16 1 := andi v32 v50
  let v52 : IVec S16x16384x3 1 := broadcastInDim S16x16384x3 ![0, 1] bcast_S16x16384_S16x16384x3_0_1 v46
  let cst_14 : FVec F S_ .f32 := constant S_ .f32 0xFF800000#32
  let v53 : FVec F S16x16384x3 .f32 := broadcastInDim S16x16384x3 ![] bcast_S_S16x16384x3 cst_14
  let v54 : FVec F S16x16384x3 .f32 := select v52 arg0 v53
  fn_pre_16_part3 (F := F) arg0 v42 v51 v54

def fn_pre_16_part1 {F : FTy → Type} [FloatOps F] (arg0 : FVec F S16x16384x3 .f32) (v4 : FVec F S16x16384 .f32) (v13 : IVec S16 1) (v17 : FVec F S16x3 .f32) : FVec F S16x16384 .f32 × FVec F S16x1x3 .f32 × IVec S16 1 :=
  let v18 : FVec F S16x1x3 .f32 := broadcastInDim S16x1x3 ![0, 2] bcast_S16x3_S16x1x3_0_2 v17
  let v19 : FVec F S16x16384x3 .f32 := broadcastInDim S16x16384x3 ![0, 1, 2] bcast_S16x1x3_S16x16384x3_0_1_2 v18
  let v20 : FVec F S16x16384x3 .f32 := subf arg0 v19
  let v21 : FVec F S16x16384x3 .f32 := mulf v20 v20
  let cst_4 : FVec F S_ .f32 := constant S_ .f32 0x00000000#32
  let v22 : FVec F S16x16384 .f32 := (fun x v => Host.reduceAdd x v reducesTo_S16x16384x3_S16x16384_d2 h_S_) v21 cst_4
  let v23 : FVec F S16x16384 .f32 := minimumf v4 v22
  let cst_5 : FVec F S_ .f32 := constant S_ .f32 0xFF800000#32
  let v24 : FVec F S16 .f32 := (fun x v => Host.reduce FloatOps.maximumf x v reducesTo_S16x16384_S16_d1 h_S_) v23 cst_5
  let v25 : FVec F S16x1 .f32 := broadcastInDim S16x1 ![0] bcast_S16_S16x1_0 v24
  let v26 : FVec F S16x16384 .f32 := broadcastInDim S16x16384 ![0, 1] bcast_S16x1_S16x16384_0_1 v25
  let v27 : IVec S16x16384 1 := cmpf .oeq v23 v26
  let v28 : IVec S16x16384 32 := (extui 32 · natLt_1_32) v27
  let c_6 : IVec S_ 32 := constantI S_ 32 0#32
  let v29 : IVec S16 32 := (fun x v => Host.reduce IntOp.addi x v reducesTo_S16x16384_S16_d1 h_S_) v28 c_6
  let c_7 : IVec S_ 32 := constantI S_ 32 1#32
  let v30 : IVec S16 32 := broadcastInDim S16 ![] bcast_S_S16 c_7
  let v31 : IVec S16 1 := cmpi .eq v29 v30
  let v32 : IVec S16 1 := andi v13 v31
  let v33 : IVec S16x16384x3 1 := broadcastInDim S16x16384x3 ![0, 1] bcast_S16x16384_S16x16384x3_0_1 v27
  let cst_8 : FVec F S_ .f32 := constant S_ .f32 0xFF800000#32
  let v34 : FVec F S16x16384x3 .f32 := broadcastInDim S16x16384x3 ![] bcast_S_S16x16384x3 cst_8
  let v35 : FVec F S16x16384x3 .f32 := select v33 arg0 v34
  let cst_9 : FVec F S_ .f32 := constant S_ .f32 0xFF800000#32
  fn_pre_16_part2 (F := F) arg0 v23 v32 v35 cst_9

def fn_pre_16 {F : FTy → Type} [FloatOps F] (arg0 : FVec F S16x16384x3 .f32) (arg1 : FVec F S16x16384 .f32) (arg2 : FVec F S16x1x3 .f32) (arg3 : IVec S16 1) : FVec F S16x16384 .f32 × FVec F S16x1x3 .f32 × IVec S16 1 :=
  let v0 : FVec F S16x16384x3 .f32 := broadcastInDim S16x16384x3 ![0, 1, 2] bcast_S16x1x3_S16x16384x3_0_1_2 arg2
  let v1 : FVec F S16x16384x3 .f32 := subf arg0 v0
  let v2 : FVec F S16x16384x3 .f32 := mulf v1 v1
  let cst : FVec F S_ .f32 := constant S_ .f32 0x00000000#32
  let v3 : FVec F S16x16384 .f32 := (fun x v => Host.reduceAdd x v reducesTo_S16x16384x3_S16x16384_d2 h_S_) v2 cst
  let v4 : FVec F S16x16384 .f32 := minimumf arg1 v3
  let cst_0 : FVec F S_ .f32 := constant S_ .f32 0xFF800000#32
  let v5 : FVec F S16 .f32 := (fun x v => Host.reduce FloatOps.maximumf x v reducesTo_S16x16384_S16_d1 h_S_) v4 cst_0
  let v6 : FVec F S16x1 .f32 := broadcastInDim S16x1 ![0] bcast_S16_S16x1_0 v5
  let v7 : FVec F S16x16384 .f32 := broadcastInDim S16x16384 ![0, 1] bcast_S16x1_S16x16384_0_1 v6
  let v8 : IVec S16x16384 1 := cmpf .oeq v4 v7
  let v9 : IVec S16x16384 32 := (extui 32 · natLt_1_32) v8
  let c : IVec S_ 32 := constantI S_ 32 0#32
  let v10 : IVec S16 32 := (fun x v => Host.reduce IntOp.addi x v reducesTo_S16x16384_S16_d1 h_S_) v9 c
  let c_1 : IVec S_ 32 := constantI S_ 32 1#32
  let v11 : IVec S16 32 := broadcastInDim S16 ![] bcast_S_S16 c_1
  let v12 : IVec S16 1 := cmpi .eq v10 v11
  let v13 : IVec S16 1 := andi arg3 v12
  let v14 : IVec S16x16384x3 1 := broadcastInDim S16x16384x3 ![0, 1] bcast_S16x16384_S16x16384x3_0_1 v8
  let cst_2 : FVec F S_ .f32 := constant S_ .f32 0xFF800000#32
  let v15 : FVec F S16x16384x3 .f32 := broadcastInDim S16x16384x3 ![] bcast_S_S16x16384x3 cst_2
  let v16 : FVec F S16x16384x3 .f32 := select v14 arg0 v15
  let cst_3 : FVec F S_ .f32 := constant S_ .f32 0xFF800000#32
  let v17 : FVec F S16x3 .f32 := (fun x v => Host.reduce FloatOps.maximumf x v reducesTo_S16x16384x3_S16x3_d1 h_S_) v16 cst_3
  fn_pre_16_part1 (F := F) arg0 v4 v13 v17

def fn_part16 {F : FTy → Type} [FloatOps F] (main_arg0 : FVec F S16x16384x3 .f32) (main_v128_0 : FVec F S16x16384 .f32) (main_v128_1 : FVec F S16x1x3 .f32) (main_v128_2 : IVec S16 1) (main_v129_0 : FVec F S16x16384 .f32) : IVec S16 1 :=
  let main_v129_1 : FVec F S16x1x3 .f32 := (fn_pre_16 (F := F) main_arg0 main_v128_0 main_v128_1 main_v128_2).2.1
  let main_v129_2 : IVec S16 1 := (fn_pre_16 (F := F) main_arg0 main_v128_0 main_v128_1 main_v128_2).2.2
  let main_v130_0 : FVec F S16x16384 .f32 := (fn_pre_16 (F := F) main_arg0 main_v129_0 main_v129_1 main_v129_2).1
  let main_v130_1 : FVec F S16x1x3 .f32 := (fn_pre_16 (F := F) main_arg0 main_v129_0 main_v129_1 main_v129_2).2.1
  let main_v130_2 : IVec S16 1 := (fn_pre_16 (F := F) main_arg0 main_v129_0 main_v129_1 main_v129_2).2.2
  main_v130_2

def fn_part15 {F : FTy → Type} [FloatOps F] (main_arg0 : FVec F S16x16384x3 .f32) (main_v120_0 : FVec F S16x16384 .f32) (main_v120_1 : FVec F S16x1x3 .f32) (main_v120_2 : IVec S16 1) (main_v121_0 : FVec F S16x16384 .f32) : IVec S16 1 :=
  let main_v121_1 : FVec F S16x1x3 .f32 := (fn_pre_16 (F := F) main_arg0 main_v120_0 main_v120_1 main_v120_2).2.1
  let main_v121_2 : IVec S16 1 := (fn_pre_16 (F := F) main_arg0 main_v120_0 main_v120_1 main_v120_2).2.2
  let main_v122_0 : FVec F S16x16384 .f32 := (fn_pre_16 (F := F) main_arg0 main_v121_0 main_v121_1 main_v121_2).1
  let main_v122_1 : FVec F S16x1x3 .f32 := (fn_pre_16 (F := F) main_arg0 main_v121_0 main_v121_1 main_v121_2).2.1
  let main_v122_2 : IVec S16 1 := (fn_pre_16 (F := F) main_arg0 main_v121_0 main_v121_1 main_v121_2).2.2
  let main_v123_0 : FVec F S16x16384 .f32 := (fn_pre_16 (F := F) main_arg0 main_v122_0 main_v122_1 main_v122_2).1
  let main_v123_1 : FVec F S16x1x3 .f32 := (fn_pre_16 (F := F) main_arg0 main_v122_0 main_v122_1 main_v122_2).2.1
  let main_v123_2 : IVec S16 1 := (fn_pre_16 (F := F) main_arg0 main_v122_0 main_v122_1 main_v122_2).2.2
  let main_v124_0 : FVec F S16x16384 .f32 := (fn_pre_16 (F := F) main_arg0 main_v123_0 main_v123_1 main_v123_2).1
  let main_v124_1 : FVec F S16x1x3 .f32 := (fn_pre_16 (F := F) main_arg0 main_v123_0 main_v123_1 main_v123_2).2.1
  let main_v124_2 : IVec S16 1 := (fn_pre_16 (F := F) main_arg0 main_v123_0 main_v123_1 main_v123_2).2.2
  let main_v125_0 : FVec F S16x16384 .f32 := (fn_pre_16 (F := F) main_arg0 main_v124_0 main_v124_1 main_v124_2).1
  let main_v125_1 : FVec F S16x1x3 .f32 := (fn_pre_16 (F := F) main_arg0 main_v124_0 main_v124_1 main_v124_2).2.1
  let main_v125_2 : IVec S16 1 := (fn_pre_16 (F := F) main_arg0 main_v124_0 main_v124_1 main_v124_2).2.2
  let main_v126_0 : FVec F S16x16384 .f32 := (fn_pre_16 (F := F) main_arg0 main_v125_0 main_v125_1 main_v125_2).1
  let main_v126_1 : FVec F S16x1x3 .f32 := (fn_pre_16 (F := F) main_arg0 main_v125_0 main_v125_1 main_v125_2).2.1
  let main_v126_2 : IVec S16 1 := (fn_pre_16 (F := F) main_arg0 main_v125_0 main_v125_1 main_v125_2).2.2
  let main_v127_0 : FVec F S16x16384 .f32 := (fn_pre_16 (F := F) main_arg0 main_v126_0 main_v126_1 main_v126_2).1
  let main_v127_1 : FVec F S16x1x3 .f32 := (fn_pre_16 (F := F) main_arg0 main_v126_0 main_v126_1 main_v126_2).2.1
  let main_v127_2 : IVec S16 1 := (fn_pre_16 (F := F) main_arg0 main_v126_0 main_v126_1 main_v126_2).2.2
  let main_v128_0 : FVec F S16x16384 .f32 := (fn_pre_16 (F := F) main_arg0 main_v127_0 main_v127_1 main_v127_2).1
  let main_v128_1 : FVec F S16x1x3 .f32 := (fn_pre_16 (F := F) main_arg0 main_v127_0 main_v127_1 main_v127_2).2.1
  let main_v128_2 : IVec S16 1 := (fn_pre_16 (F := F) main_arg0 main_v127_0 main_v127_1 main_v127_2).2.2
  let main_v129_0 : FVec F S16x16384 .f32 := (fn_pre_16 (F := F) main_arg0 main_v128_0 main_v128_1 main_v128_2).1
  fn_part16 (F := F) main_arg0 main_v128_0 main_v128_1 main_v128_2 main_v129_0

def fn_part14 {F : FTy → Type} [FloatOps F] (main_arg0 : FVec F S16x16384x3 .f32) (main_v112_0 : FVec F S16x16384 .f32) (main_v112_1 : FVec F S16x1x3 .f32) (main_v112_2 : IVec S16 1) (main_v113_0 : FVec F S16x16384 .f32) : IVec S16 1 :=
  let main_v113_1 : FVec F S16x1x3 .f32 := (fn_pre_16 (F := F) main_arg0 main_v112_0 main_v112_1 main_v112_2).2.1
  let main_v113_2 : IVec S16 1 := (fn_pre_16 (F := F) main_arg0 main_v112_0 main_v112_1 main_v112_2).2.2
  let main_v114_0 : FVec F S16x16384 .f32 := (fn_pre_16 (F := F) main_arg0 main_v113_0 main_v113_1 main_v113_2).1
  let main_v114_1 : FVec F S16x1x3 .f32 := (fn_pre_16 (F := F) main_arg0 main_v113_0 main_v113_1 main_v113_2).2.1
  let main_v114_2 : IVec S16 1 := (fn_pre_16 (F := F) main_arg0 main_v113_0 main_v113_1 main_v113_2).2.2
  let main_v115_0 : FVec F S16x16384 .f32 := (fn_pre_16 (F := F) main_arg0 main_v114_0 main_v114_1 main_v114_2).1
  let main_v115_1 : FVec F S16x1x3 .f32 := (fn_pre_16 (F := F) main_arg0 main_v114_0 main_v114_1 main_v114_2).2.1
  let main_v115_2 : IVec S16 1 := (fn_pre_16 (F := F) main_arg0 main_v114_0 main_v114_1 main_v114_2).2.2
  let main_v116_0 : FVec F S16x16384 .f32 := (fn_pre_16 (F := F) main_arg0 main_v115_0 main_v115_1 main_v115_2).1
  let main_v116_1 : FVec F S16x1x3 .f32 := (fn_pre_16 (F := F) main_arg0 main_v115_0 main_v115_1 main_v115_2).2.1
  let main_v116_2 : IVec S16 1 := (fn_pre_16 (F := F) main_arg0 main_v115_0 main_v115_1 main_v115_2).2.2
  let main_v117_0 : FVec F S16x16384 .f32 := (fn_pre_16 (F := F) main_arg0 main_v116_0 main_v116_1 main_v116_2).1
  let main_v117_1 : FVec F S16x1x3 .f32 := (fn_pre_16 (F := F) main_arg0 main_v116_0 main_v116_1 main_v116_2).2.1
  let main_v117_2 : IVec S16 1 := (fn_pre_16 (F := F) main_arg0 main_v116_0 main_v116_1 main_v116_2).2.2
  let main_v118_0 : FVec F S16x16384 .f32 := (fn_pre_16 (F := F) main_arg0 main_v117_0 main_v117_1 main_v117_2).1
  let main_v118_1 : FVec F S16x1x3 .f32 := (fn_pre_16 (F := F) main_arg0 main_v117_0 main_v117_1 main_v117_2).2.1
  let main_v118_2 : IVec S16 1 := (fn_pre_16 (F := F) main_arg0 main_v117_0 main_v117_1 main_v117_2).2.2
  let main_v119_0 : FVec F S16x16384 .f32 := (fn_pre_16 (F := F) main_arg0 main_v118_0 main_v118_1 main_v118_2).1
  let main_v119_1 : FVec F S16x1x3 .f32 := (fn_pre_16 (F := F) main_arg0 main_v118_0 main_v118_1 main_v118_2).2.1
  let main_v119_2 : IVec S16 1 := (fn_pre_16 (F := F) main_arg0 main_v118_0 main_v118_1 main_v118_2).2.2
  let main_v120_0 : FVec F S16x16384 .f32 := (fn_pre_16 (F := F) main_arg0 main_v119_0 main_v119_1 main_v119_2).1
  let main_v120_1 : FVec F S16x1x3 .f32 := (fn_pre_16 (F := F) main_arg0 main_v119_0 main_v119_1 main_v119_2).2.1
  let main_v120_2 : IVec S16 1 := (fn_pre_16 (F := F) main_arg0 main_v119_0 main_v119_1 main_v119_2).2.2
  let main_v121_0 : FVec F S16x16384 .f32 := (fn_pre_16 (F := F) main_arg0 main_v120_0 main_v120_1 main_v120_2).1
  fn_part15 (F := F) main_arg0 main_v120_0 main_v120_1 main_v120_2 main_v121_0

def fn_part13 {F : FTy → Type} [FloatOps F] (main_arg0 : FVec F S16x16384x3 .f32) (main_v104_0 : FVec F S16x16384 .f32) (main_v104_1 : FVec F S16x1x3 .f32) (main_v104_2 : IVec S16 1) (main_v105_0 : FVec F S16x16384 .f32) : IVec S16 1 :=
  let main_v105_1 : FVec F S16x1x3 .f32 := (fn_pre_16 (F := F) main_arg0 main_v104_0 main_v104_1 main_v104_2).2.1
  let main_v105_2 : IVec S16 1 := (fn_pre_16 (F := F) main_arg0 main_v104_0 main_v104_1 main_v104_2).2.2
  let main_v106_0 : FVec F S16x16384 .f32 := (fn_pre_16 (F := F) main_arg0 main_v105_0 main_v105_1 main_v105_2).1
  let main_v106_1 : FVec F S16x1x3 .f32 := (fn_pre_16 (F := F) main_arg0 main_v105_0 main_v105_1 main_v105_2).2.1
  let main_v106_2 : IVec S16 1 := (fn_pre_16 (F := F) main_arg0 main_v105_0 main_v105_1 main_v105_2).2.2
  let main_v107_0 : FVec F S16x16384 .f32 := (fn_pre_16 (F := F) main_arg0 main_v106_0 main_v106_1 main_v106_2).1
  let main_v107_1 : FVec F S16x1x3 .f32 := (fn_pre_16 (F := F) main_arg0 main_v106_0 main_v106_1 main_v106_2).2.1
  let main_v107_2 : IVec S16 1 := (fn_pre_16 (F := F) main_arg0 main_v106_0 main_v106_1 main_v106_2).2.2
  let main_v108_0 : FVec F S16x16384 .f32 := (fn_pre_16 (F := F) main_arg0 main_v107_0 main_v107_1 main_v107_2).1
  let main_v108_1 : FVec F S16x1x3 .f32 := (fn_pre_16 (F := F) main_arg0 main_v107_0 main_v107_1 main_v107_2).2.1
  let main_v108_2 : IVec S16 1 := (fn_pre_16 (F := F) main_arg0 main_v107_0 main_v107_1 main_v107_2).2.2
  let main_v109_0 : FVec F S16x16384 .f32 := (fn_pre_16 (F := F) main_arg0 main_v108_0 main_v108_1 main_v108_2).1
  let main_v109_1 : FVec F S16x1x3 .f32 := (fn_pre_16 (F := F) main_arg0 main_v108_0 main_v108_1 main_v108_2).2.1
  let main_v109_2 : IVec S16 1 := (fn_pre_16 (F := F) main_arg0 main_v108_0 main_v108_1 main_v108_2).2.2
  let main_v110_0 : FVec F S16x16384 .f32 := (fn_pre_16 (F := F) main_arg0 main_v109_0 main_v109_1 main_v109_2).1
  let main_v110_1 : FVec F S16x1x3 .f32 := (fn_pre_16 (F := F) main_arg0 main_v109_0 main_v109_1 main_v109_2).2.1
  let main_v110_2 : IVec S16 1 := (fn_pre_16 (F := F) main_arg0 main_v109_0 main_v109_1 main_v109_2).2.2
  let main_v111_0 : FVec F S16x16384 .f32 := (fn_pre_16 (F := F) main_arg0 main_v110_0 main_v110_1 main_v110_2).1
  let main_v111_1 : FVec F S16x1x3 .f32 := (fn_pre_16 (F := F) main_arg0 main_v110_0 main_v110_1 main_v110_2).2.1
  let main_v111_2 : IVec S16 1 := (fn_pre_16 (F := F) main_arg0 main_v110_0 main_v110_1 main_v110_2).2.2
  let main_v112_0 : FVec F S16x16384 .f32 := (fn_pre_16 (F := F) main_arg0 main_v111_0 main_v111_1 main_v111_2).1
  let main_v112_1 : FVec F S16x1x3 .f32 := (fn_pre_16 (F := F) main_arg0 main_v111_0 main_v111_1 main_v111_2).2.1
  let main_v112_2 : IVec S16 1 := (fn_pre_16 (F := F) main_arg0 main_v111_0 main_v111_1 main_v111_2).2.2
  let main_v113_0 : FVec F S16x16384 .f32 := (fn_pre_16 (F := F) main_arg0 main_v112_0 main_v112_1 main_v112_2).1
  fn_part14 (F := F) main_arg0 main_v112_0 main_v112_1 main_v112_2 main_v113_0

def fn_part12 {F : FTy → Type} [FloatOps F] (main_arg0 : FVec F S16x16384x3 .f32) (main_v96_0 : FVec F S16x16384 .f32) (main_v96_1 : FVec F S16x1x3 .f32) (main_v96_2 : IVec S16 1) (main_v97_0 : FVec F S16x16384 .f32) : IVec S16 1 :=
  let main_v97_1 : FVec F S16x1x3 .f32 := (fn_pre_16 (F := F) main_arg0 main_v96_0 main_v96_1 main_v96_2).2.1
  let main_v97_2 : IVec S16 1 := (fn_pre_16 (F := F) main_arg0 main_v96_0 main_v96_1 main_v96_2).2.2
  let main_v98_0 : FVec F S16x16384 .f32 := (fn_pre_16 (F := F) main_arg0 main_v97_0 main_v97_1 main_v97_2).1
  let main_v98_1 : FVec F S16x1x3 .f32 := (fn_pre_16 (F := F) main_arg0 main_v97_0 main_v97_1 main_v97_2).2.1
  let main_v98_2 : IVec S16 1 := (fn_pre_16 (F := F) main_arg0 main_v97_0 main_v97_1 main_v97_2).2.2
  let main_v99_0 : FVec F S16x16384 .f32 := (fn_pre_16 (F := F) main_arg0 main_v98_0 main_v98_1 main_v98_2).1
  let main_v99_1 : FVec F S16x1x3 .f32 := (fn_pre_16 (F := F) main_arg0 main_v98_0 main_v98_1 main_v98_2).2.1
  let main_v99_2 : IVec S16 1 := (fn_pre_16 (F := F) main_arg0 main_v98_0 main_v98_1 main_v98_2).2.2
  let main_v100_0 : FVec F S16x16384 .f32 := (fn_pre_16 (F := F) main_arg0 main_v99_0 main_v99_1 main_v99_2).1
  let main_v100_1 : FVec F S16x1x3 .f32 := (fn_pre_16 (F := F) main_arg0 main_v99_0 main_v99_1 main_v99_2).2.1
  let main_v100_2 : IVec S16 1 := (fn_pre_16 (F := F) main_arg0 main_v99_0 main_v99_1 main_v99_2).2.2
  let main_v101_0 : FVec F S16x16384 .f32 := (fn_pre_16 (F := F) main_arg0 main_v100_0 main_v100_1 main_v100_2).1
  let main_v101_1 : FVec F S16x1x3 .f32 := (fn_pre_16 (F := F) main_arg0 main_v100_0 main_v100_1 main_v100_2).2.1
  let main_v101_2 : IVec S16 1 := (fn_pre_16 (F := F) main_arg0 main_v100_0 main_v100_1 main_v100_2).2.2
  let main_v102_0 : FVec F S16x16384 .f32 := (fn_pre_16 (F := F) main_arg0 main_v101_0 main_v101_1 main_v101_2).1
  let main_v102_1 : FVec F S16x1x3 .f32 := (fn_pre_16 (F := F) main_arg0 main_v101_0 main_v101_1 main_v101_2).2.1
  let main_v102_2 : IVec S16 1 := (fn_pre_16 (F := F) main_arg0 main_v101_0 main_v101_1 main_v101_2).2.2
  let main_v103_0 : FVec F S16x16384 .f32 := (fn_pre_16 (F := F) main_arg0 main_v102_0 main_v102_1 main_v102_2).1
  let main_v103_1 : FVec F S16x1x3 .f32 := (fn_pre_16 (F := F) main_arg0 main_v102_0 main_v102_1 main_v102_2).2.1
  let main_v103_2 : IVec S16 1 := (fn_pre_16 (F := F) main_arg0 main_v102_0 main_v102_1 main_v102_2).2.2
  let main_v104_0 : FVec F S16x16384 .f32 := (fn_pre_16 (F := F) main_arg0 main_v103_0 main_v103_1 main_v103_2).1
  let main_v104_1 : FVec F S16x1x3 .f32 := (fn_pre_16 (F := F) main_arg0 main_v103_0 main_v103_1 main_v103_2).2.1
  let main_v104_2 : IVec S16 1 := (fn_pre_16 (F := F) main_arg0 main_v103_0 main_v103_1 main_v103_2).2.2
  let main_v105_0 : FVec F S16x16384 .f32 := (fn_pre_16 (F := F) main_arg0 main_v104_0 main_v104_1 main_v104_2).1
  fn_part13 (F := F) main_arg0 main_v104_0 main_v104_1 main_v104_2 main_v105_0

def fn_part11 {F : FTy → Type} [FloatOps F] (main_arg0 : FVec F S16x16384x3 .f32) (main_v88_0 : FVec F S16x16384 .f32) (main_v88_1 : FVec F S16x1x3 .f32) (main_v88_2 : IVec S16 1) (main_v89_0 : FVec F S16x16384 .f32) : IVec S16 1 :=
  let main_v89_1 : FVec F S16x1x3 .f32 := (fn_pre_16 (F := F) main_arg0 main_v88_0 main_v88_1 main_v88_2).2.1
  let main_v89_2 : IVec S16 1 := (fn_pre_16 (F := F) main_arg0 main_v88_0 main_v88_1 main_v88_2).2.2
  let main_v90_0 : FVec F S16x16384 .f32 := (fn_pre_16 (F := F) main_arg0 main_v89_0 main_v89_1 main_v89_2).1
  let main_v90_1 : FVec F S16x1x3 .f32 := (fn_pre_16 (F := F) main_arg0 main_v89_0 main_v89_1 main_v89_2).2.1
  let main_v90_2 : IVec S16 1 := (fn_pre_16 (F := F) main_arg0 main_v89_0 main_v89_1 main_v89_2).2.2
  let main_v91_0 : FVec F S16x16384 .f32 := (fn_pre_16 (F := F) main_arg0 main_v90_0 main_v90_1 main_v90_2).1
  let main_v91_1 : FVec F S16x1x3 .f32 := (fn_pre_16 (F := F) main_arg0 main_v90_0 main_v90_1 main_v90_2).2.1
  let main_v91_2 : IVec S16 1 := (fn_pre_16 (F := F) main_arg0 main_v90_0 main_v90_1 main_v90_2).2.2
  let main_v92_0 : FVec F S16x16384 .f32 := (fn_pre_16 (F := F) main_arg0 main_v91_0 main_v91_1 main_v91_2).1
  let main_v92_1 : FVec F S16x1x3 .f32 := (fn_pre_16 (F := F) main_arg0 main_v91_0 main_v91_1 main_v91_2).2.1
  let main_v92_2 : IVec S16 1 := (fn_pre_16 (F := F) main_arg0 main_v91_0 main_v91_1 main_v91_2).2.2
  let main_v93_0 : FVec F S16x16384 .f32 := (fn_pre_16 (F := F) main_arg0 main_v92_0 main_v92_1 main_v92_2).1
  let main_v93_1 : FVec F S16x1x3 .f32 := (fn_pre_16 (F := F) main_arg0 main_v92_0 main_v92_1 main_v92_2).2.1
  let main_v93_2 : IVec S16 1 := (fn_pre_16 (F := F) main_arg0 main_v92_0 main_v92_1 main_v92_2).2.2
  let main_v94_0 : FVec F S16x16384 .f32 := (fn_pre_16 (F := F) main_arg0 main_v93_0 main_v93_1 main_v93_2).1
  let main_v94_1 : FVec F S16x1x3 .f32 := (fn_pre_16 (F := F) main_arg0 main_v93_0 main_v93_1 main_v93_2).2.1
  let main_v94_2 : IVec S16 1 := (fn_pre_16 (F := F) main_arg0 main_v93_0 main_v93_1 main_v93_2).2.2
  let main_v95_0 : FVec F S16x16384 .f32 := (fn_pre_16 (F := F) main_arg0 main_v94_0 main_v94_1 main_v94_2).1
  let main_v95_1 : FVec F S16x1x3 .f32 := (fn_pre_16 (F := F) main_arg0 main_v94_0 main_v94_1 main_v94_2).2.1
  let main_v95_2 : IVec S16 1 := (fn_pre_16 (F := F) main_arg0 main_v94_0 main_v94_1 main_v94_2).2.2
  let main_v96_0 : FVec F S16x16384 .f32 := (fn_pre_16 (F := F) main_arg0 main_v95_0 main_v95_1 main_v95_2).1
  let main_v96_1 : FVec F S16x1x3 .f32 := (fn_pre_16 (F := F) main_arg0 main_v95_0 main_v95_1 main_v95_2).2.1
  let main_v96_2 : IVec S16 1 := (fn_pre_16 (F := F) main_arg0 main_v95_0 main_v95_1 main_v95_2).2.2
  let main_v97_0 : FVec F S16x16384 .f32 := (fn_pre_16 (F := F) main_arg0 main_v96_0 main_v96_1 main_v96_2).1
  fn_part12 (F := F) main_arg0 main_v96_0 main_v96_1 main_v96_2 main_v97_0

def fn_part10 {F : FTy → Type} [FloatOps F] (main_arg0 : FVec F S16x16384x3 .f32) (main_v80_0 : FVec F S16x16384 .f32) (main_v80_1 : FVec F S16x1x3 .f32) (main_v80_2 : IVec S16 1) (main_v81_0 : FVec F S16x16384 .f32) : IVec S16 1 :=
  let main_v81_1 : FVec F S16x1x3 .f32 := (fn_pre_16 (F := F) main_arg0 main_v80_0 main_v80_1 main_v80_2).2.1
  let main_v81_2 : IVec S16 1 := (fn_pre_16 (F := F) main_arg0 main_v80_0 main_v80_1 main_v80_2).2.2
  let main_v82_0 : FVec F S16x16384 .f32 := (fn_pre_16 (F := F) main_arg0 main_v81_0 main_v81_1 main_v81_2).1
  let main_v82_1 : FVec F S16x1x3 .f32 := (fn_pre_16 (F := F) main_arg0 main_v81_0 main_v81_1 main_v81_2).2.1
  let main_v82_2 : IVec S16 1 := (fn_pre_16 (F := F) main_arg0 main_v81_0 main_v81_1 main_v81_2).2.2
  let main_v83_0 : FVec F S16x16384 .f32 := (fn_pre_16 (F := F) main_arg0 main_v82_0 main_v82_1 main_v82_2).1
  let main_v83_1 : FVec F S16x1x3 .f32 := (fn_pre_16 (F := F) main_arg0 main_v82_0 main_v82_1 main_v82_2).2.1
  let main_v83_2 : IVec S16 1 := (fn_pre_16 (F := F) main_arg0 main_v82_0 main_v82_1 main_v82_2).2.2
  let main_v84_0 : FVec F S16x16384 .f32 := (fn_pre_16 (F := F) main_arg0 main_v83_0 main_v83_1 main_v83_2).1
  let main_v84_1 : FVec F S16x1x3 .f32 := (fn_pre_16 (F := F) main_arg0 main_v83_0 main_v83_1 main_v83_2).2.1
  let main_v84_2 : IVec S16 1 := (fn_pre_16 (F := F) main_arg0 main_v83_0 main_v83_1 main_v83_2).2.2
  let main_v85_0 : FVec F S16x16384 .f32 := (fn_pre_16 (F := F) main_arg0 main_v84_0 main_v84_1 main_v84_2).1
  let main_v85_1 : FVec F S16x1x3 .f32 := (fn_pre_16 (F := F) main_arg0 main_v84_0 main_v84_1 main_v84_2).2.1
  let main_v85_2 : IVec S16 1 := (fn_pre_16 (F := F) main_arg0 main_v84_0 main_v84_1 main_v84_2).2.2
  let main_v86_0 : FVec F S16x16384 .f32 := (fn_pre_16 (F := F) main_arg0 main_v85_0 main_v85_1 main_v85_2).1
  let main_v86_1 : FVec F S16x1x3 .f32 := (fn_pre_16 (F := F) main_arg0 main_v85_0 main_v85_1 main_v85_2).2.1
  let main_v86_2 : IVec S16 1 := (fn_pre_16 (F := F) main_arg0 main_v85_0 main_v85_1 main_v85_2).2.2
  let main_v87_0 : FVec F S16x16384 .f32 := (fn_pre_16 (F := F) main_arg0 main_v86_0 main_v86_1 main_v86_2).1
  let main_v87_1 : FVec F S16x1x3 .f32 := (fn_pre_16 (F := F) main_arg0 main_v86_0 main_v86_1 main_v86_2).2.1
  let main_v87_2 : IVec S16 1 := (fn_pre_16 (F := F) main_arg0 main_v86_0 main_v86_1 main_v86_2).2.2
  let main_v88_0 : FVec F S16x16384 .f32 := (fn_pre_16 (F := F) main_arg0 main_v87_0 main_v87_1 main_v87_2).1
  let main_v88_1 : FVec F S16x1x3 .f32 := (fn_pre_16 (F := F) main_arg0 main_v87_0 main_v87_1 main_v87_2).2.1
  let main_v88_2 : IVec S16 1 := (fn_pre_16 (F := F) main_arg0 main_v87_0 main_v87_1 main_v87_2).2.2
  let main_v89_0 : FVec F S16x16384 .f32 := (fn_pre_16 (F := F) main_arg0 main_v88_0 main_v88_1 main_v88_2).1
  fn_part11 (F := F) main_arg0 main_v88_0 main_v88_1 main_v88_2 main_v89_0

def fn_part9 {F : FTy → Type} [FloatOps F] (main_arg0 : FVec F S16x16384x3 .f32) (main_v72_0 : FVec F S16x16384 .f32) (main_v72_1 : FVec F S16x1x3 .f32) (main_v72_2 : IVec S16 1) (main_v73_0 : FVec F S16x16384 .f32) : IVec S16 1 :=
  let main_v73_1 : FVec F S16x1x3 .f32 := (fn_pre_16 (F := F) main_arg0 main_v72_0 main_v72_1 main_v72_2).2.1
  let main_v73_2 : IVec S16 1 := (fn_pre_16 (F := F) main_arg0 main_v72_0 main_v72_1 main_v72_2).2.2
  let main_v74_0 : FVec F S16x16384 .f32 := (fn_pre_16 (F := F) main_arg0 main_v73_0 main_v73_1 main_v73_2).1
  let main_v74_1 : FVec F S16x1x3 .f32 := (fn_pre_16 (F := F) main_arg0 main_v73_0 main_v73_1 main_v73_2).2.1
  let main_v74_2 : IVec S16 1 := (fn_pre_16 (F := F) main_arg0 main_v73_0 main_v73_1 main_v73_2).2.2
  let main_v75_0 : FVec F S16x16384 .f32 := (fn_pre_16 (F := F) main_arg0 main_v74_0 main_v74_1 main_v74_2).1
  let main_v75_1 : FVec F S16x1x3 .f32 := (fn_pre_16 (F := F) main_arg0 main_v74_0 main_v74_1 main_v74_2).2.1
  let main_v75_2 : IVec S16 1 := (fn_pre_16 (F := F) main_arg0 main_v74_0 main_v74_1 main_v74_2).2.2
  let main_v76_0 : FVec F S16x16384 .f32 := (fn_pre_16 (F := F) main_arg0 main_v75_0 main_v75_1 main_v75_2).1
  let main_v76_1 : FVec F S16x1x3 .f32 := (fn_pre_16 (F := F) main_arg0 main_v75_0 main_v75_1 main_v75_2).2.1
  let main_v76_2 : IVec S16 1 := (fn_pre_16 (F := F) main_arg0 main_v75_0 main_v75_1 main_v75_2).2.2
  let main_v77_0 : FVec F S16x16384 .f32 := (fn_pre_16 (F := F) main_arg0 main_v76_0 main_v76_1 main_v76_2).1
  let main_v77_1 : FVec F S16x1x3 .f32 := (fn_pre_16 (F := F) main_arg0 main_v76_0 main_v76_1 main_v76_2).2.1
  let main_v77_2 : IVec S16 1 := (fn_pre_16 (F := F) main_arg0 main_v76_0 main_v76_1 main_v76_2).2.2
  let main_v78_0 : FVec F S16x16384 .f32 := (fn_pre_16 (F := F) main_arg0 main_v77_0 main_v77_1 main_v77_2).1
  let main_v78_1 : FVec F S16x1x3 .f32 := (fn_pre_16 (F := F) main_arg0 main_v77_0 main_v77_1 main_v77_2).2.1
  let main_v78_2 : IVec S16 1 := (fn_pre_16 (F := F) main_arg0 main_v77_0 main_v77_1 main_v77_2).2.2
  let main_v79_0 : FVec F S16x16384 .f32 := (fn_pre_16 (F := F) main_arg0 main_v78_0 main_v78_1 main_v78_2).1
  let main_v79_1 : FVec F S16x1x3 .f32 := (fn_pre_16 (F := F) main_arg0 main_v78_0 main_v78_1 main_v78_2).2.1
  let main_v79_2 : IVec S16 1 := (fn_pre_16 (F := F) main_arg0 main_v78_0 main_v78_1 main_v78_2).2.2
  let main_v80_0 : FVec F S16x16384 .f32 := (fn_pre_16 (F := F) main_arg0 main_v79_0 main_v79_1 main_v79_2).1
  let main_v80_1 : FVec F S16x1x3 .f32 := (fn_pre_16 (F := F) main_arg0 main_v79_0 main_v79_1 main_v79_2).2.1
  let main_v80_2 : IVec S16 1 := (fn_pre_16 (F := F) main_arg0 main_v79_0 main_v79_1 main_v79_2).2.2
  let main_v81_0 : FVec F S16x16384 .f32 := (fn_pre_16 (F := F) main_arg0 main_v80_0 main_v80_1 main_v80_2).1
  fn_part10 (F := F) main_arg0 main_v80_0 main_v80_1 main_v80_2 main_v81_0

def fn_part8 {F : FTy → Type} [FloatOps F] (main_arg0 : FVec F S16x16384x3 .f32) (main_v64_0 : FVec F S16x16384 .f32) (main_v64_1 : FVec F S16x1x3 .f32) (main_v64_2 : IVec S16 1) (main_v65_0 : FVec F S16x16384 .f32) : IVec S16 1 :=
  let main_v65_1 : FVec F S16x1x3 .f32 := (fn_pre_16 (F := F) main_arg0 main_v64_0 main_v64_1 main_v64_2).2.1
  let main_v65_2 : IVec S16 1 := (fn_pre_16 (F := F) main_arg0 main_v64_0 main_v64_1 main_v64_2).2.2
  let main_v66_0 : FVec F S16x16384 .f32 := (fn_pre_16 (F := F) main_arg0 main_v65_0 main_v65_1 main_v65_2).1
  let main_v66_1 : FVec F S16x1x3 .f32 := (fn_pre_16 (F := F) main_arg0 main_v65_0 main_v65_1 main_v65_2).2.1
  let main_v66_2 : IVec S16 1 := (fn_pre_16 (F := F) main_arg0 main_v65_0 main_v65_1 main_v65_2).2.2
  let main_v67_0 : FVec F S16x16384 .f32 := (fn_pre_16 (F := F) main_arg0 main_v66_0 main_v66_1 main_v66_2).1
  let main_v67_1 : FVec F S16x1x3 .f32 := (fn_pre_16 (F := F) main_arg0 main_v66_0 main_v66_1 main_v66_2).2.1
  let main_v67_2 : IVec S16 1 := (fn_pre_16 (F := F) main_arg0 main_v66_0 main_v66_1 main_v66_2).2.2
  let main_v68_0 : FVec F S16x16384 .f32 := (fn_pre_16 (F := F) main_arg0 main_v67_0 main_v67_1 main_v67_2).1
  let main_v68_1 : FVec F S16x1x3 .f32 := (fn_pre_16 (F := F) main_arg0 main_v67_0 main_v67_1 main_v67_2).2.1
  let main_v68_2 : IVec S16 1 := (fn_pre_16 (F := F) main_arg0 main_v67_0 main_v67_1 main_v67_2).2.2
  let main_v69_0 : FVec F S16x16384 .f32 := (fn_pre_16 (F := F) main_arg0 main_v68_0 main_v68_1 main_v68_2).1
  let main_v69_1 : FVec F S16x1x3 .f32 := (fn_pre_16 (F := F) main_arg0 main_v68_0 main_v68_1 main_v68_2).2.1
  let main_v69_2 : IVec S16 1 := (fn_pre_16 (F := F) main_arg0 main_v68_0 main_v68_1 main_v68_2).2.2
  let main_v70_0 : FVec F S16x16384 .f32 := (fn_pre_16 (F := F) main_arg0 main_v69_0 main_v69_1 main_v69_2).1
  let main_v70_1 : FVec F S16x1x3 .f32 := (fn_pre_16 (F := F) main_arg0 main_v69_0 main_v69_1 main_v69_2).2.1
  let main_v70_2 : IVec S16 1 := (fn_pre_16 (F := F) main_arg0 main_v69_0 main_v69_1 main_v69_2).2.2
  let main_v71_0 : FVec F S16x16384 .f32 := (fn_pre_16 (F := F) main_arg0 main_v70_0 main_v70_1 main_v70_2).1
  let main_v71_1 : FVec F S16x1x3 .f32 := (fn_pre_16 (F := F) main_arg0 main_v70_0 main_v70_1 main_v70_2).2.1
  let main_v71_2 : IVec S16 1 := (fn_pre_16 (F := F) main_arg0 main_v70_0 main_v70_1 main_v70_2).2.2
  let main_v72_0 : FVec F S16x16384 .f32 := (fn_pre_16 (F := F) main_arg0 main_v71_0 main_v71_1 main_v71_2).1
  let main_v72_1 : FVec F S16x1x3 .f32 := (fn_pre_16 (F := F) main_arg0 main_v71_0 main_v71_1 main_v71_2).2.1
  let main_v72_2 : IVec S16 1 := (fn_pre_16 (F := F) main_arg0 main_v71_0 main_v71_1 main_v71_2).2.2
  let main_v73_0 : FVec F S16x16384 .f32 := (fn_pre_16 (F := F) main_arg0 main_v72_0 main_v72_1 main_v72_2).1
  fn_part9 (F := F) main_arg0 main_v72_0 main_v72_1 main_v72_2 main_v73_0

def fn_part7 {F : FTy → Type} [FloatOps F] (main_arg0 : FVec F S16x16384x3 .f32) (main_v56_0 : FVec F S16x16384 .f32) (main_v56_1 : FVec F S16x1x3 .f32) (main_v56_2 : IVec S16 1) (main_v57_0 : FVec F S16x16384 .f32) : IVec S16 1 :=
  let main_v57_1 : FVec F S16x1x3 .f32 := (fn_pre_16 (F := F) main_arg0 main_v56_0 main_v56_1 main_v56_2).2.1
  let main_v57_2 : IVec S16 1 := (fn_pre_16 (F := F) main_arg0 main_v56_0 main_v56_1 main_v56_2).2.2
  let main_v58_0 : FVec F S16x16384 .f32 := (fn_pre_16 (F := F) main_arg0 main_v57_0 main_v57_1 main_v57_2).1
  let main_v58_1 : FVec F S16x1x3 .f32 := (fn_pre_16 (F := F) main_arg0 main_v57_0 main_v57_1 main_v57_2).2.1
  let main_v58_2 : IVec S16 1 := (fn_pre_16 (F := F) main_arg0 main_v57_0 main_v57_1 main_v57_2).2.2
  let main_v59_0 : FVec F S16x16384 .f32 := (fn_pre_16 (F := F) main_arg0 main_v58_0 main_v58_1 main_v58_2).1
  let main_v59_1 : FVec F S16x1x3 .f32 := (fn_pre_16 (F := F) main_arg0 main_v58_0 main_v58_1 main_v58_2).2.1
  let main_v59_2 : IVec S16 1 := (fn_pre_16 (F := F) main_arg0 main_v58_0 main_v58_1 main_v58_2).2.2
  let main_v60_0 : FVec F S16x16384 .f32 := (fn_pre_16 (F := F) main_arg0 main_v59_0 main_v59_1 main_v59_2).1
  let main_v60_1 : FVec F S16x1x3 .f32 := (fn_pre_16 (F := F) main_arg0 main_v59_0 main_v59_1 main_v59_2).2.1
  let main_v60_2 : IVec S16 1 := (fn_pre_16 (F := F) main_arg0 main_v59_0 main_v59_1 main_v59_2).2.2
  let main_v61_0 : FVec F S16x16384 .f32 := (fn_pre_16 (F := F) main_arg0 main_v60_0 main_v60_1 main_v60_2).1
  let main_v61_1 : FVec F S16x1x3 .f32 := (fn_pre_16 (F := F) main_arg0 main_v60_0 main_v60_1 main_v60_2).2.1
  let main_v61_2 : IVec S16 1 := (fn_pre_16 (F := F) main_arg0 main_v60_0 main_v60_1 main_v60_2).2.2
  let main_v62_0 : FVec F S16x16384 .f32 := (fn_pre_16 (F := F) main_arg0 main_v61_0 main_v61_1 main_v61_2).1
  let main_v62_1 : FVec F S16x1x3 .f32 := (fn_pre_16 (F := F) main_arg0 main_v61_0 main_v61_1 main_v61_2).2.1
  let main_v62_2 : IVec S16 1 := (fn_pre_16 (F := F) main_arg0 main_v61_0 main_v61_1 main_v61_2).2.2
  let main_v63_0 : FVec F S16x16384 .f32 := (fn_pre_16 (F := F) main_arg0 main_v62_0 main_v62_1 main_v62_2).1
  let main_v63_1 : FVec F S16x1x3 .f32 := (fn_pre_16 (F := F) main_arg0 main_v62_0 main_v62_1 main_v62_2).2.1
  let main_v63_2 : IVec S16 1 := (fn_pre_16 (F := F) main_arg0 main_v62_0 main_v62_1 main_v62_2).2.2
  let main_v64_0 : FVec F S16x16384 .f32 := (fn_pre_16 (F := F) main_arg0 main_v63_0 main_v63_1 main_v63_2).1
  let main_v64_1 : FVec F S16x1x3 .f32 := (fn_pre_16 (F := F) main_arg0 main_v63_0 main_v63_1 main_v63_2).2.1
  let main_v64_2 : IVec S16 1 := (fn_pre_16 (F := F) main_arg0 main_v63_0 main_v63_1 main_v63_2).2.2
  let main_v65_0 : FVec F S16x16384 .f32 := (fn_pre_16 (F := F) main_arg0 main_v64_0 main_v64_1 main_v64_2).1
  fn_part8 (F := F) main_arg0 main_v64_0 main_v64_1 main_v64_2 main_v65_0

def fn_part6 {F : FTy → Type} [FloatOps F] (main_arg0 : FVec F S16x16384x3 .f32) (main_v48_0 : FVec F S16x16384 .f32) (main_v48_1 : FVec F S16x1x3 .f32) (main_v48_2 : IVec S16 1) (main_v49_0 : FVec F S16x16384 .f32) : IVec S16 1 :=
  let main_v49_1 : FVec F S16x1x3 .f32 := (fn_pre_16 (F := F) main_arg0 main_v48_0 main_v48_1 main_v48_2).2.1
  let main_v49_2 : IVec S16 1 := (fn_pre_16 (F := F) main_arg0 main_v48_0 main_v48_1 main_v48_2).2.2
  let main_v50_0 : FVec F S16x16384 .f32 := (fn_pre_16 (F := F) main_arg0 main_v49_0 main_v49_1 main_v49_2).1
  let main_v50_1 : FVec F S16x1x3 .f32 := (fn_pre_16 (F := F) main_arg0 main_v49_0 main_v49_1 main_v49_2).2.1
  let main_v50_2 : IVec S16 1 := (fn_pre_16 (F := F) main_arg0 main_v49_0 main_v49_1 main_v49_2).2.2
  let main_v51_0 : FVec F S16x16384 .f32 := (fn_pre_16 (F := F) main_arg0 main_v50_0 main_v50_1 main_v50_2).1
  let main_v51_1 : FVec F S16x1x3 .f32 := (fn_pre_16 (F := F) main_arg0 main_v50_0 main_v50_1 main_v50_2).2.1
  let main_v51_2 : IVec S16 1 := (fn_pre_16 (F := F) main_arg0 main_v50_0 main_v50_1 main_v50_2).2.2
  let main_v52_0 : FVec F S16x16384 .f32 := (fn_pre_16 (F := F) main_arg0 main_v51_0 main_v51_1 main_v51_2).1
  let main_v52_1 : FVec F S16x1x3 .f32 := (fn_pre_16 (F := F) main_arg0 main_v51_0 main_v51_1 main_v51_2).2.1
  let main_v52_2 : IVec S16 1 := (fn_pre_16 (F := F) main_arg0 main_v51_0 main_v51_1 main_v51_2).2.2
  let main_v53_0 : FVec F S16x16384 .f32 := (fn_pre_16 (F := F) main_arg0 main_v52_0 main_v52_1 main_v52_2).1
  let main_v53_1 : FVec F S16x1x3 .f32 := (fn_pre_16 (F := F) main_arg0 main_v52_0 main_v52_1 main_v52_2).2.1
  let main_v53_2 : IVec S16 1 := (fn_pre_16 (F := F) main_arg0 main_v52_0 main_v52_1 main_v52_2).2.2
  let main_v54_0 : FVec F S16x16384 .f32 := (fn_pre_16 (F := F) main_arg0 main_v53_0 main_v53_1 main_v53_2).1
  let main_v54_1 : FVec F S16x1x3 .f32 := (fn_pre_16 (F := F) main_arg0 main_v53_0 main_v53_1 main_v53_2).2.1
  let main_v54_2 : IVec S16 1 := (fn_pre_16 (F := F) main_arg0 main_v53_0 main_v53_1 main_v53_2).2.2
  let main_v55_0 : FVec F S16x16384 .f32 := (fn_pre_16 (F := F) main_arg0 main_v54_0 main_v54_1 main_v54_2).1
  let main_v55_1 : FVec F S16x1x3 .f32 := (fn_pre_16 (F := F) main_arg0 main_v54_0 main_v54_1 main_v54_2).2.1
  let main_v55_2 : IVec S16 1 := (fn_pre_16 (F := F) main_arg0 main_v54_0 main_v54_1 main_v54_2).2.2
  let main_v56_0 : FVec F S16x16384 .f32 := (fn_pre_16 (F := F) main_arg0 main_v55_0 main_v55_1 main_v55_2).1
  let main_v56_1 : FVec F S16x1x3 .f32 := (fn_pre_16 (F := F) main_arg0 main_v55_0 main_v55_1 main_v55_2).2.1
  let main_v56_2 : IVec S16 1 := (fn_pre_16 (F := F) main_arg0 main_v55_0 main_v55_1 main_v55_2).2.2
  let main_v57_0 : FVec F S16x16384 .f32 := (fn_pre_16 (F := F) main_arg0 main_v56_0 main_v56_1 main_v56_2).1
  fn_part7 (F := F) main_arg0 main_v56_0 main_v56_1 main_v56_2 main_v57_0

def fn_part5 {F : FTy → Type} [FloatOps F] (main_arg0 : FVec F S16x16384x3 .f32) (main_v40_0 : FVec F S16x16384 .f32) (main_v40_1 : FVec F S16x1x3 .f32) (main_v40_2 : IVec S16 1) (main_v41_0 : FVec F S16x16384 .f32) : IVec S16 1 :=
  let main_v41_1 : FVec F S16x1x3 .f32 := (fn_pre_16 (F := F) main_arg0 main_v40_0 main_v40_1 main_v40_2).2.1
  let main_v41_2 : IVec S16 1 := (fn_pre_16 (F := F) main_arg0 main_v40_0 main_v40_1 main_v40_2).2.2
  let main_v42_0 : FVec F S16x16384 .f32 := (fn_pre_16 (F := F) main_arg0 main_v41_0 main_v41_1 main_v41_2).1
  let main_v42_1 : FVec F S16x1x3 .f32 := (fn_pre_16 (F := F) main_arg0 main_v41_0 main_v41_1 main_v41_2).2.1
  let main_v42_2 : IVec S16 1 := (fn_pre_16 (F := F) main_arg0 main_v41_0 main_v41_1 main_v41_2).2.2
  let main_v43_0 : FVec F S16x16384 .f32 := (fn_pre_16 (F := F) main_arg0 main_v42_0 main_v42_1 main_v42_2).1
  let main_v43_1 : FVec F S16x1x3 .f32 := (fn_pre_16 (F := F) main_arg0 main_v42_0 main_v42_1 main_v42_2).2.1
  let main_v43_2 : IVec S16 1 := (fn_pre_16 (F := F) main_arg0 main_v42_0 main_v42_1 main_v42_2).2.2
  let main_v44_0 : FVec F S16x16384 .f32 := (fn_pre_16 (F := F) main_arg0 main_v43_0 main_v43_1 main_v43_2).1
  let main_v44_1 : FVec F S16x1x3 .f32 := (fn_pre_16 (F := F) main_arg0 main_v43_0 main_v43_1 main_v43_2).2.1
  let main_v44_2 : IVec S16 1 := (fn_pre_16 (F := F) main_arg0 main_v43_0 main_v43_1 main_v43_2).2.2
  let main_v45_0 : FVec F S16x16384 .f32 := (fn_pre_16 (F := F) main_arg0 main_v44_0 main_v44_1 main_v44_2).1
  let main_v45_1 : FVec F S16x1x3 .f32 := (fn_pre_16 (F := F) main_arg0 main_v44_0 main_v44_1 main_v44_2).2.1
  let main_v45_2 : IVec S16 1 := (fn_pre_16 (F := F) main_arg0 main_v44_0 main_v44_1 main_v44_2).2.2
  let main_v46_0 : FVec F S16x16384 .f32 := (fn_pre_16 (F := F) main_arg0 main_v45_0 main_v45_1 main_v45_2).1
  let main_v46_1 : FVec F S16x1x3 .f32 := (fn_pre_16 (F := F) main_arg0 main_v45_0 main_v45_1 main_v45_2).2.1
  let main_v46_2 : IVec S16 1 := (fn_pre_16 (F := F) main_arg0 main_v45_0 main_v45_1 main_v45_2).2.2
  let main_v47_0 : FVec F S16x16384 .f32 := (fn_pre_16 (F := F) main_arg0 main_v46_0 main_v46_1 main_v46_2).1
  let main_v47_1 : FVec F S16x1x3 .f32 := (fn_pre_16 (F := F) main_arg0 main_v46_0 main_v46_1 main_v46_2).2.1
  let main_v47_2 : IVec S16 1 := (fn_pre_16 (F := F) main_arg0 main_v46_0 main_v46_1 main_v46_2).2.2
  let main_v48_0 : FVec F S16x16384 .f32 := (fn_pre_16 (F := F) main_arg0 main_v47_0 main_v47_1 main_v47_2).1
  let main_v48_1 : FVec F S16x1x3 .f32 := (fn_pre_16 (F := F) main_arg0 main_v47_0 main_v47_1 main_v47_2).2.1
  let main_v48_2 : IVec S16 1 := (fn_pre_16 (F := F) main_arg0 main_v47_0 main_v47_1 main_v47_2).2.2
  let main_v49_0 : FVec F S16x16384 .f32 := (fn_pre_16 (F := F) main_arg0 main_v48_0 main_v48_1 main_v48_2).1
  fn_part6 (F := F) main_arg0 main_v48_0 main_v48_1 main_v48_2 main_v49_0

def fn_part4 {F : FTy → Type} [FloatOps F] (main_arg0 : FVec F S16x16384x3 .f32) (main_v32_0 : FVec F S16x16384 .f32) (main_v32_1 : FVec F S16x1x3 .f32) (main_v32_2 : IVec S16 1) (main_v33_0 : FVec F S16x16384 .f32) : IVec S16 1 :=
  let main_v33_1 : FVec F S16x1x3 .f32 := (fn_pre_16 (F := F) main_arg0 main_v32_0 main_v32_1 main_v32_2).2.1
  let main_v33_2 : IVec S16 1 := (fn_pre_16 (F := F) main_arg0 main_v32_0 main_v32_1 main_v32_2).2.2
  let main_v34_0 : FVec F S16x16384 .f32 := (fn_pre_16 (F := F) main_arg0 main_v33_0 main_v33_1 main_v33_2).1
  let main_v34_1 : FVec F S16x1x3 .f32 := (fn_pre_16 (F := F) main_arg0 main_v33_0 main_v33_1 main_v33_2).2.1
  let main_v34_2 : IVec S16 1 := (fn_pre_16 (F := F) main_arg0 main_v33_0 main_v33_1 main_v33_2).2.2
  let main_v35_0 : FVec F S16x16384 .f32 := (fn_pre_16 (F := F) main_arg0 main_v34_0 main_v34_1 main_v34_2).1
  let main_v35_1 : FVec F S16x1x3 .f32 := (fn_pre_16 (F := F) main_arg0 main_v34_0 main_v34_1 main_v34_2).2.1
  let main_v35_2 : IVec S16 1 := (fn_pre_16 (F := F) main_arg0 main_v34_0 main_v34_1 main_v34_2).2.2
  let main_v36_0 : FVec F S16x16384 .f32 := (fn_pre_16 (F := F) main_arg0 main_v35_0 main_v35_1 main_v35_2).1
  let main_v36_1 : FVec F S16x1x3 .f32 := (fn_pre_16 (F := F) main_arg0 main_v35_0 main_v35_1 main_v35_2).2.1
  let main_v36_2 : IVec S16 1 := (fn_pre_16 (F := F) main_arg0 main_v35_0 main_v35_1 main_v35_2).2.2
  let main_v37_0 : FVec F S16x16384 .f32 := (fn_pre_16 (F := F) main_arg0 main_v36_0 main_v36_1 main_v36_2).1
  let main_v37_1 : FVec F S16x1x3 .f32 := (fn_pre_16 (F := F) main_arg0 main_v36_0 main_v36_1 main_v36_2).2.1
  let main_v37_2 : IVec S16 1 := (fn_pre_16 (F := F) main_arg0 main_v36_0 main_v36_1 main_v36_2).2.2
  let main_v38_0 : FVec F S16x16384 .f32 := (fn_pre_16 (F := F) main_arg0 main_v37_0 main_v37_1 main_v37_2).1
  let main_v38_1 : FVec F S16x1x3 .f32 := (fn_pre_16 (F := F) main_arg0 main_v37_0 main_v37_1 main_v37_2).2.1
  let main_v38_2 : IVec S16 1 := (fn_pre_16 (F := F) main_arg0 main_v37_0 main_v37_1 main_v37_2).2.2
  let main_v39_0 : FVec F S16x16384 .f32 := (fn_pre_16 (F := F) main_arg0 main_v38_0 main_v38_1 main_v38_2).1
  let main_v39_1 : FVec F S16x1x3 .f32 := (fn_pre_16 (F := F) main_arg0 main_v38_0 main_v38_1 main_v38_2).2.1
  let main_v39_2 : IVec S16 1 := (fn_pre_16 (F := F) main_arg0 main_v38_0 main_v38_1 main_v38_2).2.2
  let main_v40_0 : FVec F S16x16384 .f32 := (fn_pre_16 (F := F) main_arg0 main_v39_0 main_v39_1 main_v39_2).1
  let main_v40_1 : FVec F S16x1x3 .f32 := (fn_pre_16 (F := F) main_arg0 main_v39_0 main_v39_1 main_v39_2).2.1
  let main_v40_2 : IVec S16 1 := (fn_pre_16 (F := F) main_arg0 main_v39_0 main_v39_1 main_v39_2).2.2
  let main_v41_0 : FVec F S16x16384 .f32 := (fn_pre_16 (F := F) main_arg0 main_v40_0 main_v40_1 main_v40_2).1
  fn_part5 (F := F) main_arg0 main_v40_0 main_v40_1 main_v40_2 main_v41_0

def fn_part3 {F : FTy → Type} [FloatOps F] (main_arg0 : FVec F S16x16384x3 .f32) (main_v24_0 : FVec F S16x16384 .f32) (main_v24_1 : FVec F S16x1x3 .f32) (main_v24_2 : IVec S16 1) (main_v25_0 : FVec F S16x16384 .f32) : IVec S16 1 :=
  let main_v25_1 : FVec F S16x1x3 .f32 := (fn_pre_16 (F := F) main_arg0 main_v24_0 main_v24_1 main_v24_2).2.1
  let main_v25_2 : IVec S16 1 := (fn_pre_16 (F := F) main_arg0 main_v24_0 main_v24_1 main_v24_2).2.2
  let main_v26_0 : FVec F S16x16384 .f32 := (fn_pre_16 (F := F) main_arg0 main_v25_0 main_v25_1 main_v25_2).1
  let main_v26_1 : FVec F S16x1x3 .f32 := (fn_pre_16 (F := F) main_arg0 main_v25_0 main_v25_1 main_v25_2).2.1
  let main_v26_2 : IVec S16 1 := (fn_pre_16 (F := F) main_arg0 main_v25_0 main_v25_1 main_v25_2).2.2
  let main_v27_0 : FVec F S16x16384 .f32 := (fn_pre_16 (F := F) main_arg0 main_v26_0 main_v26_1 main_v26_2).1
  let main_v27_1 : FVec F S16x1x3 .f32 := (fn_pre_16 (F := F) main_arg0 main_v26_0 main_v26_1 main_v26_2).2.1
  let main_v27_2 : IVec S16 1 := (fn_pre_16 (F := F) main_arg0 main_v26_0 main_v26_1 main_v26_2).2.2
  let main_v28_0 : FVec F S16x16384 .f32 := (fn_pre_16 (F := F) main_arg0 main_v27_0 main_v27_1 main_v27_2).1
  let main_v28_1 : FVec F S16x1x3 .f32 := (fn_pre_16 (F := F) main_arg0 main_v27_0 main_v27_1 main_v27_2).2.1
  let main_v28_2 : IVec S16 1 := (fn_pre_16 (F := F) main_arg0 main_v27_0 main_v27_1 main_v27_2).2.2
  let main_v29_0 : FVec F S16x16384 .f32 := (fn_pre_16 (F := F) main_arg0 main_v28_0 main_v28_1 main_v28_2).1
  let main_v29_1 : FVec F S16x1x3 .f32 := (fn_pre_16 (F := F) main_arg0 main_v28_0 main_v28_1 main_v28_2).2.1
  let main_v29_2 : IVec S16 1 := (fn_pre_16 (F := F) main_arg0 main_v28_0 main_v28_1 main_v28_2).2.2
  let main_v30_0 : FVec F S16x16384 .f32 := (fn_pre_16 (F := F) main_arg0 main_v29_0 main_v29_1 main_v29_2).1
  let main_v30_1 : FVec F S16x1x3 .f32 := (fn_pre_16 (F := F) main_arg0 main_v29_0 main_v29_1 main_v29_2).2.1
  let main_v30_2 : IVec S16 1 := (fn_pre_16 (F := F) main_arg0 main_v29_0 main_v29_1 main_v29_2).2.2
  let main_v31_0 : FVec F S16x16384 .f32 := (fn_pre_16 (F := F) main_arg0 main_v30_0 main_v30_1 main_v30_2).1
  let main_v31_1 : FVec F S16x1x3 .f32 := (fn_pre_16 (F := F) main_arg0 main_v30_0 main_v30_1 main_v30_2).2.1
  let main_v31_2 : IVec S16 1 := (fn_pre_16 (F := F) main_arg0 main_v30_0 main_v30_1 main_v30_2).2.2
  let main_v32_0 : FVec F S16x16384 .f32 := (fn_pre_16 (F := F) main_arg0 main_v31_0 main_v31_1 main_v31_2).1
  let main_v32_1 : FVec F S16x1x3 .f32 := (fn_pre_16 (F := F) main_arg0 main_v31_0 main_v31_1 main_v31_2).2.1
  let main_v32_2 : IVec S16 1 := (fn_pre_16 (F := F) main_arg0 main_v31_0 main_v31_1 main_v31_2).2.2
  let main_v33_0 : FVec F S16x16384 .f32 := (fn_pre_16 (F := F) main_arg0 main_v32_0 main_v32_1 main_v32_2).1
  fn_part4 (F := F) main_arg0 main_v32_0 main_v32_1 main_v32_2 main_v33_0

def fn_part2 {F : FTy → Type} [FloatOps F] (main_arg0 : FVec F S16x16384x3 .f32) (main_v16_0 : FVec F S16x16384 .f32) (main_v16_1 : FVec F S16x1x3 .f32) (main_v16_2 : IVec S16 1) (main_v17_0 : FVec F S16x16384 .f32) : IVec S16 1 :=
  let main_v17_1 : FVec F S16x1x3 .f32 := (fn_pre_16 (F := F) main_arg0 main_v16_0 main_v16_1 main_v16_2).2.1
  let main_v17_2 : IVec S16 1 := (fn_pre_16 (F := F) main_arg0 main_v16_0 main_v16_1 main_v16_2).2.2
  let main_v18_0 : FVec F S16x16384 .f32 := (fn_pre_16 (F := F) main_arg0 main_v17_0 main_v17_1 main_v17_2).1
  let main_v18_1 : FVec F S16x1x3 .f32 := (fn_pre_16 (F := F) main_arg0 main_v17_0 main_v17_1 main_v17_2).2.1
  let main_v18_2 : IVec S16 1 := (fn_pre_16 (F := F) main_arg0 main_v17_0 main_v17_1 main_v17_2).2.2
  let main_v19_0 : FVec F S16x16384 .f32 := (fn_pre_16 (F := F) main_arg0 main_v18_0 main_v18_1 main_v18_2).1
  let main_v19_1 : FVec F S16x1x3 .f32 := (fn_pre_16 (F := F) main_arg0 main_v18_0 main_v18_1 main_v18_2).2.1
  let main_v19_2 : IVec S16 1 := (fn_pre_16 (F := F) main_arg0 main_v18_0 main_v18_1 main_v18_2).2.2
  let main_v20_0 : FVec F S16x16384 .f32 := (fn_pre_16 (F := F) main_arg0 main_v19_0 main_v19_1 main_v19_2).1
  let main_v20_1 : FVec F S16x1x3 .f32 := (fn_pre_16 (F := F) main_arg0 main_v19_0 main_v19_1 main_v19_2).2.1
  let main_v20_2 : IVec S16 1 := (fn_pre_16 (F := F) main_arg0 main_v19_0 main_v19_1 main_v19_2).2.2
  let main_v21_0 : FVec F S16x16384 .f32 := (fn_pre_16 (F := F) main_arg0 main_v20_0 main_v20_1 main_v20_2).1
  let main_v21_1 : FVec F S16x1x3 .f32 := (fn_pre_16 (F := F) main_arg0 main_v20_0 main_v20_1 main_v20_2).2.1
  let main_v21_2 : IVec S16 1 := (fn_pre_16 (F := F) main_arg0 main_v20_0 main_v20_1 main_v20_2).2.2
  let main_v22_0 : FVec F S16x16384 .f32 := (fn_pre_16 (F := F) main_arg0 main_v21_0 main_v21_1 main_v21_2).1
  let main_v22_1 : FVec F S16x1x3 .f32 := (fn_pre_16 (F := F) main_arg0 main_v21_0 main_v21_1 main_v21_2).2.1
  let main_v22_2 : IVec S16 1 := (fn_pre_16 (F := F) main_arg0 main_v21_0 main_v21_1 main_v21_2).2.2
  let main_v23_0 : FVec F S16x16384 .f32 := (fn_pre_16 (F := F) main_arg0 main_v22_0 main_v22_1 main_v22_2).1
  let main_v23_1 : FVec F S16x1x3 .f32 := (fn_pre_16 (F := F) main_arg0 main_v22_0 main_v22_1 main_v22_2).2.1
  let main_v23_2 : IVec S16 1 := (fn_pre_16 (F := F) main_arg0 main_v22_0 main_v22_1 main_v22_2).2.2
  let main_v24_0 : FVec F S16x16384 .f32 := (fn_pre_16 (F := F) main_arg0 main_v23_0 main_v23_1 main_v23_2).1
  let main_v24_1 : FVec F S16x1x3 .f32 := (fn_pre_16 (F := F) main_arg0 main_v23_0 main_v23_1 main_v23_2).2.1
  let main_v24_2 : IVec S16 1 := (fn_pre_16 (F := F) main_arg0 main_v23_0 main_v23_1 main_v23_2).2.2
  let main_v25_0 : FVec F S16x16384 .f32 := (fn_pre_16 (F := F) main_arg0 main_v24_0 main_v24_1 main_v24_2).1
  fn_part3 (F := F) main_arg0 main_v24_0 main_v24_1 main_v24_2 main_v25_0

def fn_part1 {F : FTy → Type} [FloatOps F] (main_arg0 : FVec F S16x16384x3 .f32) (main_v8_0 : FVec F S16x16384 .f32) (main_v8_1 : FVec F S16x1x3 .f32) (main_v8_2 : IVec S16 1) (main_v9_0 : FVec F S16x16384 .f32) : IVec S16 1 :=
  let main_v9_1 : FVec F S16x1x3 .f32 := (fn_pre_16 (F := F) main_arg0 main_v8_0 main_v8_1 main_v8_2).2.1
  let main_v9_2 : IVec S16 1 := (fn_pre_16 (F := F) main_arg0 main_v8_0 main_v8_1 main_v8_2).2.2
  let main_v10_0 : FVec F S16x16384 .f32 := (fn_pre_16 (F := F) main_arg0 main_v9_0 main_v9_1 main_v9_2).1
  let main_v10_1 : FVec F S16x1x3 .f32 := (fn_pre_16 (F := F) main_arg0 main_v9_0 main_v9_1 main_v9_2).2.1
  let main_v10_2 : IVec S16 1 := (fn_pre_16 (F := F) main_arg0 main_v9_0 main_v9_1 main_v9_2).2.2
  let main_v11_0 : FVec F S16x16384 .f32 := (fn_pre_16 (F := F) main_arg0 main_v10_0 main_v10_1 main_v10_2).1
  let main_v11_1 : FVec F S16x1x3 .f32 := (fn_pre_16 (F := F) main_arg0 main_v10_0 main_v10_1 main_v10_2).2.1
  let main_v11_2 : IVec S16 1 := (fn_pre_16 (F := F) main_arg0 main_v10_0 main_v10_1 main_v10_2).2.2
  let main_v12_0 : FVec F S16x16384 .f32 := (fn_pre_16 (F := F) main_arg0 main_v11_0 main_v11_1 main_v11_2).1
  let main_v12_1 : FVec F S16x1x3 .f32 := (fn_pre_16 (F := F) main_arg0 main_v11_0 main_v11_1 main_v11_2).2.1
  let main_v12_2 : IVec S16 1 := (fn_pre_16 (F := F) main_arg0 main_v11_0 main_v11_1 main_v11_2).2.2
  let main_v13_0 : FVec F S16x16384 .f32 := (fn_pre_16 (F := F) main_arg0 main_v12_0 main_v12_1 main_v12_2).1
  let main_v13_1 : FVec F S16x1x3 .f32 := (fn_pre_16 (F := F) main_arg0 main_v12_0 main_v12_1 main_v12_2).2.1
  let main_v13_2 : IVec S16 1 := (fn_pre_16 (F := F) main_arg0 main_v12_0 main_v12_1 main_v12_2).2.2
  let main_v14_0 : FVec F S16x16384 .f32 := (fn_pre_16 (F := F) main_arg0 main_v13_0 main_v13_1 main_v13_2).1
  let main_v14_1 : FVec F S16x1x3 .f32 := (fn_pre_16 (F := F) main_arg0 main_v13_0 main_v13_1 main_v13_2).2.1
  let main_v14_2 : IVec S16 1 := (fn_pre_16 (F := F) main_arg0 main_v13_0 main_v13_1 main_v13_2).2.2
  let main_v15_0 : FVec F S16x16384 .f32 := (fn_pre_16 (F := F) main_arg0 main_v14_0 main_v14_1 main_v14_2).1
  let main_v15_1 : FVec F S16x1x3 .f32 := (fn_pre_16 (F := F) main_arg0 main_v14_0 main_v14_1 main_v14_2).2.1
  let main_v15_2 : IVec S16 1 := (fn_pre_16 (F := F) main_arg0 main_v14_0 main_v14_1 main_v14_2).2.2
  let main_v16_0 : FVec F S16x16384 .f32 := (fn_pre_16 (F := F) main_arg0 main_v15_0 main_v15_1 main_v15_2).1
  let main_v16_1 : FVec F S16x1x3 .f32 := (fn_pre_16 (F := F) main_arg0 main_v15_0 main_v15_1 main_v15_2).2.1
  let main_v16_2 : IVec S16 1 := (fn_pre_16 (F := F) main_arg0 main_v15_0 main_v15_1 main_v15_2).2.2
  let main_v17_0 : FVec F S16x16384 .f32 := (fn_pre_16 (F := F) main_arg0 main_v16_0 main_v16_1 main_v16_2).1
  fn_part2 (F := F) main_arg0 main_v16_0 main_v16_1 main_v16_2 main_v17_0

def fn {F : FTy → Type} [FloatOps F] (main_arg0 : FVec F S16x16384x3 .f32) : IVec S16 1 :=
  let main_cst : FVec F S_ .f32 := constant S_ .f32 0x501502F9#32
  let main_v0 : FVec F S16x16384 .f32 := broadcastInDim S16x16384 ![] bcast_S_S16x16384 main_cst
  let main_v1 : FVec F S16x1x3 .f32 := (extractStridedSlice S16x1x3 ![0, 0, 0] · slices_S16x16384x3_S16x1x3_0_0_0) main_arg0
  let main_c : IVec S_ 1 := constantI S_ 1 1#1
  let main_v2 : IVec S16 1 := broadcastInDim S16 ![] bcast_S_S16 main_c
  let main_v3_0 : FVec F S16x16384 .f32 := (fn_pre_16 (F := F) main_arg0 main_v0 main_v1 main_v2).1
  let main_v3_1 : FVec F S16x1x3 .f32 := (fn_pre_16 (F := F) main_arg0 main_v0 main_v1 main_v2).2.1
  let main_v3_2 : IVec S16 1 := (fn_pre_16 (F := F) main_arg0 main_v0 main_v1 main_v2).2.2
  let main_v4_0 : FVec F S16x16384 .f32 := (fn_pre_16 (F := F) main_arg0 main_v3_0 main_v3_1 main_v3_2).1
  let main_v4_1 : FVec F S16x1x3 .f32 := (fn_pre_16 (F := F) main_arg0 main_v3_0 main_v3_1 main_v3_2).2.1
  let main_v4_2 : IVec S16 1 := (fn_pre_16 (F := F) main_arg0 main_v3_0 main_v3_1 main_v3_2).2.2
  let main_v5_0 : FVec F S16x16384 .f32 := (fn_pre_16 (F := F) main_arg0 main_v4_0 main_v4_1 main_v4_2).1
  let main_v5_1 : FVec F S16x1x3 .f32 := (fn_pre_16 (F := F) main_arg0 main_v4_0 main_v4_1 main_v4_2).2.1
  let main_v5_2 : IVec S16 1 := (fn_pre_16 (F := F) main_arg0 main_v4_0 main_v4_1 main_v4_2).2.2
  let main_v6_0 : FVec F S16x16384 .f32 := (fn_pre_16 (F := F) main_arg0 main_v5_0 main_v5_1 main_v5_2).1
  let main_v6_1 : FVec F S16x1x3 .f32 := (fn_pre_16 (F := F) main_arg0 main_v5_0 main_v5_1 main_v5_2).2.1
  let main_v6_2 : IVec S16 1 := (fn_pre_16 (F := F) main_arg0 main_v5_0 main_v5_1 main_v5_2).2.2
  let main_v7_0 : FVec F S16x16384 .f32 := (fn_pre_16 (F := F) main_arg0 main_v6_0 main_v6_1 main_v6_2).1
  let main_v7_1 : FVec F S16x1x3 .f32 := (fn_pre_16 (F := F) main_arg0 main_v6_0 main_v6_1 main_v6_2).2.1
  let main_v7_2 : IVec S16 1 := (fn_pre_16 (F := F) main_arg0 main_v6_0 main_v6_1 main_v6_2).2.2
  let main_v8_0 : FVec F S16x16384 .f32 := (fn_pre_16 (F := F) main_arg0 main_v7_0 main_v7_1 main_v7_2).1
  let main_v8_1 : FVec F S16x1x3 .f32 := (fn_pre_16 (F := F) main_arg0 main_v7_0 main_v7_1 main_v7_2).2.1
  let main_v8_2 : IVec S16 1 := (fn_pre_16 (F := F) main_arg0 main_v7_0 main_v7_1 main_v7_2).2.2
  let main_v9_0 : FVec F S16x16384 .f32 := (fn_pre_16 (F := F) main_arg0 main_v8_0 main_v8_1 main_v8_2).1
  fn_part1 (F := F) main_arg0 main_v8_0 main_v8_1 main_v8_2 main_v9_0
-- ==== Kernel.lean ====
abbrev S16x16384x3 : Shape := ⟨3, ![16, 16384, 3]⟩
abbrev S3x16x16384 : Shape := ⟨3, ![3, 16, 16384]⟩
abbrev S3x16x128x128 : Shape := ⟨4, ![3, 16, 128, 128]⟩
abbrev S3x128x16x128 : Shape := ⟨4, ![3, 128, 16, 128]⟩
abbrev S16x16x128 : Shape := ⟨3, ![16, 16, 128]⟩
abbrev S128x16x128 : Shape := ⟨3, ![128, 16, 128]⟩
abbrev S16x128 : Shape := ⟨2, ![16, 128]⟩
abbrev S1x1x16x1 : Shape := ⟨4, ![1, 1, 16, 1]⟩
abbrev S16x1 : Shape := ⟨2, ![16, 1]⟩
abbrev S1x16x128 : Shape := ⟨3, ![1, 16, 128]⟩
abbrev S1x1x16x128 : Shape := ⟨4, ![1, 1, 16, 128]⟩
abbrev S16 : Shape := ⟨1, ![16]⟩
abbrev S16x16x128x1 : Shape := ⟨4, ![16, 16, 128, 1]⟩
abbrev S16x16x128x3 : Shape := ⟨4, ![16, 16, 128, 3]⟩
abbrev S16x2048x3 : Shape := ⟨3, ![16, 2048, 3]⟩

abbrev nBuf : Space → Nat
  | .hbm => 14
  | .vmem => 5
  | .smem => 0
  | _ => 0

abbrev bufTy : (tb : Table) → Fin (tcTables nBuf tb) → BufTy
  | .hbm, ⟨0, _⟩ => ⟨S16x16384x3, .f32⟩
  | .hbm, ⟨1, _⟩ => ⟨S3x16x16384, .f32⟩
  | .hbm, ⟨2, _⟩ => ⟨S3x16x128x128, .f32⟩
  | .hbm, ⟨3, _⟩ => ⟨S3x128x16x128, .f32⟩
  | .hbm, ⟨4, _⟩ => ⟨S3x128x16x128, .f32⟩
  | .hbm, ⟨5, _⟩ => ⟨S16x16x128, .f32⟩
  | .hbm, ⟨6, _⟩ => ⟨S16x16x128, .f32⟩
  | .hbm, ⟨7, _⟩ => ⟨S16x16x128, .f32⟩
  | .hbm, ⟨8, _⟩ => ⟨S16x16x128x1, .f32⟩
  | .hbm, ⟨9, _⟩ => ⟨S16x16x128x1, .f32⟩
  | .hbm, ⟨10, _⟩ => ⟨S16x16x128x1, .f32⟩
  | .hbm, ⟨11, _⟩ => ⟨S16x16x128x3, .f32⟩
  | .hbm, ⟨12, _⟩ => ⟨S16x16x128x3, .f32⟩
  | .hbm, ⟨13, _⟩ => ⟨S16x2048x3, .f32⟩
  | .local _ .vmem, ⟨0, _⟩ => ⟨S3x128x16x128, .f32⟩
  | .local _ .vmem, ⟨1, _⟩ => ⟨S16x16x128, .f32⟩
  | .local _ .vmem, ⟨2, _⟩ => ⟨S16x16x128, .f32⟩
  | .local _ .vmem, ⟨3, _⟩ => ⟨S16x16x128, .f32⟩
  | .local _ .vmem, ⟨4, _⟩ => ⟨S128x16x128, .f32⟩
  | _, _ => ⟨S16x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4_0 : Ref sig .tc := ⟨.hbm, 5, rfl⟩
abbrev main_v4_1 : Ref sig .tc := ⟨.hbm, 6, rfl⟩
abbrev main_v4_2 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2048_i32 : BitVec 32 := 2048#32
  let v14 : BitVec 32 := Scalar.addi c0_i32 c2048_i32
  let c1_i32 : BitVec 32 := 1#32
  ⟨c0_i32, v14, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let c128_i32_15 : BitVec 32 := 128#32
  let v17 : BitVec 32 := Scalar.divsi arg5 c128_i32_15
  let v30 : Index := Scalar.indexCast v17
  let c0_16 : Index := 0#32
  let c0_17 : Index := 0#32
  ![v30.toNat, 0, 0]
@[reducible] def k0_t2_loop : Scf.Loop 32 :=
  let c0_i32_22 : BitVec 32 := 0#32
  let c128_i32_23 : BitVec 32 := 128#32
  let v38 : BitVec 32 := Scalar.addi c0_i32_22 c128_i32_23
  let c1_i32_24 : BitVec 32 := 1#32
  ⟨c0_i32_22, v38, c1_i32_24⟩
def k0_off2 (k0_t2 : Fin k0_t2_loop.trips) : Fin 4 → Nat :=
  let c0_32 : Index := 0#32
  let c0_i32_22 : BitVec 32 := 0#32
  let c1_i32_24 : BitVec 32 := 1#32
  let arg12 : BitVec 32 := Scf.iv c0_i32_22 c1_i32_24 k0_t2
  let v56 : Index := Scalar.indexCast arg12
  let c0_33 : Index := 0#32
  let c0_34 : Index := 0#32
  ![0, v56.toNat, 0, 0]
def k0_off3 (k0_t2 : Fin k0_t2_loop.trips) : Fin 4 → Nat :=
  let c1_35 : Index := 1#32
  let c0_i32_22 : BitVec 32 := 0#32
  let c1_i32_24 : BitVec 32 := 1#32
  let arg12 : BitVec 32 := Scf.iv c0_i32_22 c1_i32_24 k0_t2
  let v59 : Index := Scalar.indexCast arg12
  let c0_36 : Index := 0#32
  let c0_37 : Index := 0#32
  ![1, v59.toNat, 0, 0]
def k0_off4 (k0_t2 : Fin k0_t2_loop.trips) : Fin 4 → Nat :=
  let c2_38 : Index := 2#32
  let c0_i32_22 : BitVec 32 := 0#32
  let c1_i32_24 : BitVec 32 := 1#32
  let arg12 : BitVec 32 := Scf.iv c0_i32_22 c1_i32_24 k0_t2
  let v62 : Index := Scalar.indexCast arg12
  let c0_39 : Index := 0#32
  let c0_40 : Index := 0#32
  ![2, v62.toNat, 0, 0]
def k0_off5 (k0_t2 : Fin k0_t2_loop.trips) : Fin 3 → Nat :=
  let c0_i32_22 : BitVec 32 := 0#32
  let c1_i32_24 : BitVec 32 := 1#32
  let arg12 : BitVec 32 := Scf.iv c0_i32_22 c1_i32_24 k0_t2
  let v76 : Index := Scalar.indexCast arg12
  let c0_41 : Index := 0#32
  let c0_42 : Index := 0#32
  ![v76.toNat, 0, 0]
abbrev stage0_0 : Fin 1 → Memref sig .tc .vmem S3x128x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S16x16384x3 : Shape := ⟨3, ![16, 16384, 3]⟩
abbrev S_ : Shape := ⟨0, ![]⟩
abbrev S16x2048 : Shape := ⟨2, ![16, 2048]⟩
abbrev S16x16384 : Shape := ⟨2, ![16, 16384]⟩
abbrev S16 : Shape := ⟨1, ![16]⟩
abbrev S1 : Shape := ⟨1, ![1]⟩
abbrev S16x1x1 : Shape := ⟨3, ![16, 1, 1]⟩
abbrev S1x1x1 : Shape := ⟨3, ![1, 1, 1]⟩
abbrev S16x1 : Shape := ⟨2, ![16, 1]⟩
abbrev S16x1x3 : Shape := ⟨3, ![16, 1, 3]⟩
abbrev S16x2048x1 : Shape := ⟨3, ![16, 2048, 1]⟩
abbrev S16x2048x3 : Shape := ⟨3, ![16, 2048, 3]⟩

abbrev nBuf : Space → Nat
  | .hbm => 86
  | .vmem => 0
  | .smem => 0
  | _ => 0

abbrev bufTy : (tb : Table) → Fin (tcTables nBuf tb) → BufTy
  | .hbm, ⟨0, _⟩ => ⟨S16x16384x3, .f32⟩
  | .hbm, ⟨1, _⟩ => ⟨S_, .i32⟩
  | .hbm, ⟨2, _⟩ => ⟨S16x2048, .i32⟩
  | .hbm, ⟨3, _⟩ => ⟨S_, .f32⟩
  | .hbm, ⟨4, _⟩ => ⟨S16x16384, .f32⟩
  | .hbm, ⟨5, _⟩ => ⟨S_, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16x16384x3, .f32⟩
  | .hbm, ⟨10, _⟩ => ⟨S_, .i32⟩
  | .hbm, ⟨11, _⟩ => ⟨S_, .i32⟩
  | .hbm, ⟨12, _⟩ => ⟨S16x2048, .i32⟩
  | .hbm, ⟨13, _⟩ => ⟨S16x16384, .f32⟩
  | .hbm, ⟨14, _⟩ => ⟨S16, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S16x2048, .i32⟩
  | .hbm, ⟨27, _⟩ => ⟨S16x1x1, .i32⟩
  | .hbm, ⟨28, _⟩ => ⟨S_, .i32⟩
  | .hbm, ⟨29, _⟩ => ⟨S16x1x1, .i32⟩
  | .hbm, ⟨30, _⟩ => ⟨S16x1x1, .i1⟩
  | .hbm, ⟨31, _⟩ => ⟨S_, .i32⟩
  | .hbm, ⟨32, _⟩ => ⟨S16x1x1, .i32⟩
  | .hbm, ⟨33, _⟩ => ⟨S16x1x1, .i32⟩
  | .hbm, ⟨34, _⟩ => ⟨S16x1x1, .i32⟩
  | .hbm, ⟨35, _⟩ => ⟨S1, .i32⟩
  | .hbm, ⟨36, _⟩ => ⟨S_, .i32⟩
  | .hbm, ⟨37, _⟩ => ⟨S16x1x1, .i32⟩
  | .hbm, ⟨38, _⟩ => ⟨S16x1x1, .i1⟩
  | .hbm, ⟨39, _⟩ => ⟨S1x1x1, .i32⟩
  | .hbm, ⟨40, _⟩ => ⟨S16x1x1, .i32⟩
  | .hbm, ⟨41, _⟩ => ⟨S16x1x1, .i1⟩
  | .hbm, ⟨42, _⟩ => ⟨S16x1x1, .i1⟩
  | .hbm, ⟨43, _⟩ => ⟨S_, .i1⟩
  | .hbm, ⟨44, _⟩ => ⟨S16x1, .i1⟩
  | .hbm, ⟨45, _⟩ => ⟨S16x1x3, .f32⟩
  | .hbm, ⟨46, _⟩ => ⟨S16x1x3, .i1⟩
  | .hbm, ⟨47, _⟩ => ⟨S_, .f32⟩
  | .hbm, ⟨48, _⟩ => ⟨S16x1x3, .f32⟩
  | .hbm, ⟨49, _⟩ => ⟨S16x1x3, .f32⟩
  | .hbm, ⟨50, _⟩ => ⟨S16x16384x3, .f32⟩
  | .hbm, ⟨51, _⟩ => ⟨S16x16384x3, .f32⟩
  | .hbm, ⟨52, _⟩ => ⟨S16x16384x3, .f32⟩
  | .hbm, ⟨53, _⟩ => ⟨S_, .f32⟩
  | .hbm, ⟨54, _⟩ => ⟨S16x16384, .f32⟩
  | .hbm, ⟨55, _⟩ => ⟨S16x16384, .f32⟩
  | .hbm, ⟨56, _⟩ => ⟨S16x16384, .i32⟩
  | .hbm, ⟨57, _⟩ => ⟨S_, .f32⟩
  | .hbm, ⟨58, _⟩ => ⟨S_, .i32⟩
  | .hbm, ⟨59, _⟩ => ⟨S16, .f32⟩
  | .hbm, ⟨60, _⟩ => ⟨S16, .i32⟩
  | .hbm, ⟨61, _⟩ => ⟨S_, .i32⟩
  | .hbm, ⟨62, _⟩ => ⟨S_, .i32⟩
  | .hbm, ⟨63, _⟩ => ⟨S16x2048x1, .i32⟩
  | .hbm, ⟨64, _⟩ => ⟨S_, .i32⟩
  | .hbm, ⟨65, _⟩ => ⟨S16x2048x1, .i32⟩
  | .hbm, ⟨66, _⟩ => ⟨S16x2048x1, .i1⟩
  | .hbm, ⟨67, _⟩ => ⟨S_, .i32⟩
  | .hbm, ⟨68, _⟩ => ⟨S16x2048x1, .i32⟩
  | .hbm, ⟨69, _⟩ => ⟨S16x2048x1, .i32⟩
  | .hbm, ⟨70, _⟩ => ⟨S16x2048x1, .i32⟩
  | .hbm, ⟨71, _⟩ => ⟨S1, .i32⟩
  | .hbm, ⟨72, _⟩ => ⟨S_, .i32⟩
  | .hbm, ⟨73, _⟩ => ⟨S16x2048x1, .i32⟩
  | .hbm, ⟨74, _⟩ => ⟨S16x2048x1, .i1⟩
  | .hbm, ⟨75, _⟩ => ⟨S1x1x1, .i32⟩
  | .hbm, ⟨76, _⟩ => ⟨S16x2048x1, .i32⟩
  | .hbm, ⟨77, _⟩ => ⟨S16x2048x1, .i1⟩
  | .hbm, ⟨78, _⟩ => ⟨S16x2048x1, .i1⟩
  | .hbm, ⟨79, _⟩ => ⟨S_, .i1⟩
  | .hbm, ⟨80, _⟩ => ⟨S16x2048, .i1⟩
  | .hbm, ⟨81, _⟩ => ⟨S16x2048x3, .f32⟩
  | .hbm, ⟨82, _⟩ => ⟨S16x2048x3, .i1⟩
  | .hbm, ⟨83, _⟩ => ⟨S_, .f32⟩
  | .hbm, ⟨84, _⟩ => ⟨S16x2048x3, .f32⟩
  | .hbm, ⟨85, _⟩ => ⟨S16x2048x3, .f32⟩
  | _, _ => ⟨S16x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_8 : Ref sig .tc := ⟨.hbm, 15, rfl⟩
abbrev main_while0c_v6 : Ref sig .tc := ⟨.hbm, 16, rfl⟩
abbrev main_while0b_c_8 : Ref sig .tc := ⟨.hbm, 17, rfl⟩
abbrev main_while0b_v6 : Ref sig .tc := ⟨.hbm, 18, rfl⟩
abbrev main_while0b_c_9 : Ref sig .tc := ⟨.hbm, 19, rfl⟩
abbrev main_while0b_v7 : Ref sig .tc := ⟨.hbm, 20, rfl⟩
abbrev main_while0b_c_10 : Ref sig .tc := ⟨.hbm, 21, rfl⟩
abbrev main_while0b_v8 : Ref sig .tc := ⟨.hbm, 22, rfl⟩
abbrev main_while0b_v9 : Ref sig .tc := ⟨.hbm, 23, rfl⟩
abbrev main_while0b_v10 : Ref sig .tc := ⟨.hbm, 24, rfl⟩
abbrev main_while0b_v11 : Ref sig .tc := ⟨.hbm, 25, rfl⟩
abbrev main_while0b_v12 : Ref sig .tc := ⟨.hbm, 26, rfl⟩
abbrev main_while0b_v13 : Ref sig .tc := ⟨.hbm, 27, rfl⟩
abbrev main_while0b_call0_c : Ref sig .tc := ⟨.hbm, 28, rfl⟩
abbrev main_while0b_call0_v0 : Ref sig .tc := ⟨.hbm, 29, rfl⟩
abbrev main_while0b_call0_v1 : Ref sig .tc := ⟨.hbm, 30, rfl⟩
abbrev main_while0b_call0_c_0 : Ref sig .tc := ⟨.hbm, 31, rfl⟩
abbrev main_while0b_call0_v2 : Ref sig .tc := ⟨.hbm, 32, rfl⟩
abbrev main_while0b_call0_v3 : Ref sig .tc := ⟨.hbm, 33, rfl⟩
abbrev main_while0b_call0_v4 : Ref sig .tc := ⟨.hbm, 34, rfl⟩
abbrev main_while0b_call0_c_1 : Ref sig .tc := ⟨.hbm, 35, rfl⟩
abbrev main_while0b_call0_c_2 : Ref sig .tc := ⟨.hbm, 36, rfl⟩
abbrev main_while0b_call0_v5 : Ref sig .tc := ⟨.hbm, 37, rfl⟩
abbrev main_while0b_call0_v6 : Ref sig .tc := ⟨.hbm, 38, rfl⟩
abbrev main_while0b_call0_v7 : Ref sig .tc := ⟨.hbm, 39, rfl⟩
abbrev main_while0b_call0_v8 : Ref sig .tc := ⟨.hbm, 40, rfl⟩
abbrev main_while0b_call0_v9 : Ref sig .tc := ⟨.hbm, 41, rfl⟩
abbrev main_while0b_call0_v10 : Ref sig .tc := ⟨.hbm, 42, rfl⟩
abbrev main_while0b_call0_c_3 : Ref sig .tc := ⟨.hbm, 43, rfl⟩
abbrev main_while0b_call0_v11 : Ref sig .tc := ⟨.hbm, 44, rfl⟩
abbrev main_while0b_call0_v12 : Ref sig .tc := ⟨.hbm, 45, rfl⟩
abbrev main_while0b_call0_v13 : Ref sig .tc := ⟨.hbm, 46, rfl⟩
abbrev main_while0b_call0_cst : Ref sig .tc := ⟨.hbm, 47, rfl⟩
abbrev main_while0b_call0_v14 : Ref sig .tc := ⟨.hbm, 48, rfl⟩
abbrev main_while0b_v14 : Ref sig .tc := ⟨.hbm, 49, rfl⟩
abbrev main_while0b_v15 : Ref sig .tc := ⟨.hbm, 50, rfl⟩
abbrev main_while0b_v16 : Ref sig .tc := ⟨.hbm, 51, rfl⟩
abbrev main_while0b_v17 : Ref sig .tc := ⟨.hbm, 52, rfl⟩
abbrev main_while0b_cst_11 : Ref sig .tc := ⟨.hbm, 53, rfl⟩
abbrev main_while0b_v18 : Ref sig .tc := ⟨.hbm, 54, rfl⟩
abbrev main_while0b_v19 : Ref sig .tc := ⟨.hbm, 55, rfl⟩
abbrev main_while0b_call1_v0 : Ref sig .tc := ⟨.hbm, 56, rfl⟩
abbrev main_while0b_call1_cst : Ref sig .tc := ⟨.hbm, 57, rfl⟩
abbrev main_while0b_call1_c : Ref sig .tc := ⟨.hbm, 58, rfl⟩
abbrev main_while0b_call1_v1_0 : Ref sig .tc := ⟨.hbm, 59, rfl⟩
abbrev main_while0b_v20 : Ref sig .tc := ⟨.hbm, 60, rfl⟩
abbrev main_while0b_c_12 : Ref sig .tc := ⟨.hbm, 61, rfl⟩
abbrev main_while0b_v21 : Ref sig .tc := ⟨.hbm, 62, rfl⟩
abbrev main_v4 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_c_2 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_c_3 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v5 : Ref sig .tc := ⟨.hbm, 85, rfl⟩

abbrev nD : Nat := 1
abbrev τ : Topo := Topo.v7x

variable {F : FTy → Type} [FloatOps F]

abbrev main_while0_count : Scf.Loop 32 := ⟨0#32, 2048#32, 1#32⟩
-- ==== Proof.KFrame.lean ====
/- The frame of `Kernel`: the body of the one pallas call run once with nothing said of what it leaves in its results. -/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Pipeline.Quiescent
public import Idealize.ShloMosaic.Lib.Tactic

@[expose] public section

set_option maxRecDepth 16384

noncomputable section

namespace Cert.Kernel.Fps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev 𝒱₀ : Variants := Variants.none

set_option warn.classDefReducibility false in
/-- What a trip of the outer loop touches, at some contents each: only the points stay as they are. -/
@[sl_loop] def loopInv_k0_t1 (c : Dev nD) (arg0 : Memref sig .tc .vmem S3x128x16x128 .f32) (harg0 : arg0.IsWhole) (arg1 : Memref sig .tc .vmem S16x16x128 .f32) (harg1 : arg1.IsWhole) (arg2 : Memref sig .tc .vmem S16x16x128 .f32) (harg2 : arg2.IsWhole) (arg3 : Memref sig .tc .vmem S16x16x128 .f32) (harg3 : arg3.IsWhole)
    (arg4 : Memref sig .tc .vmem S128x16x128 .f32) (harg4 : arg4.IsWhole)
    (v0 : IVec S16x128 32) (X : BufTy.Contents (Elt F) arg0.view.ty)
    (init : FVec F S16x1 .f32 × FVec F S16x1 .f32 × FVec F S16x1 .f32 × FVec F S16x128 .f32 × FVec F S16x128 .f32 × FVec F S16x128 .f32) :
    LoopInvTy_k0_t1 (F := F) Unit ℕ (UR sig nD τ) ℕ 𝒱₀ c none Set.univ arg0 harg0 arg1 harg1 arg2 harg2 arg3 harg3 arg4 harg4 v0 init where
  inv := fun _ _ => iprop((arg0.view.loc (c : Thread nD τ) ↦[arg0.view.set]{fullShare} X)
    ∗ (∃ f, arg1.view.loc (c : Thread nD τ) ↦[arg1.view.set]{fullShare} f)
    ∗ (∃ f, arg2.view.loc (c : Thread nD τ) ↦[arg2.view.set]{fullShare} f)
    ∗ (∃ f, arg3.view.loc (c : Thread nD τ) ↦[arg3.view.set]{fullShare} f)
    ∗ (∃ f, arg4.view.loc (c : Thread nD τ) ↦[arg4.view.set]{fullShare} f))
  step := fun k acc => by
    have hk : k.val < 2048 := Nat.lt_of_lt_of_le k.isLt k0_t1_abs.2.1
    obtain ⟨a1, a2, a3, a4, a5, a6⟩ := acc
    iintro ⟨H0, ⟨%f1, H1⟩, ⟨%f2, H2⟩, ⟨%f3, H3⟩, ⟨%f4, H4⟩⟩
    unfold k0_t1_body
    sl_exec
    sl_step
    sl_close

/-- The body's triple for any continuation. -/
theorem kernelRun (c : Dev nD) (arg0 : Memref sig .tc .vmem S3x128x16x128 .f32) (harg0 : arg0.IsWhole) (arg1 : Memref sig .tc .vmem S16x16x128 .f32) (harg1 : arg1.IsWhole) (arg2 : Memref sig .tc .vmem S16x16x128 .f32) (harg2 : arg2.IsWhole) (arg3 : Memref sig .tc .vmem S16x16x128 .f32) (harg3 : arg3.IsWhole)
    (arg4 : Memref sig .tc .vmem S128x16x128 .f32) (harg4 : arg4.IsWhole)
    (X : S3x128x16x128.Idx → Elt F .f32) (K : PUnit → sProp 𝕄) :
    iprop(owns (c : Thread nD τ) arg0 fullShare X
        ∗ (∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg0 fullShare X
            ∗ (∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)) -∗ K ⟨⟩))
      ⊢ wp frame (wpE (defs₀ (F := F)) 𝒱₀ c none) Set.univ
          (cc0__fps_kernel arg0 harg0 arg1 harg1 arg2 harg2 arg3 harg3 arg4 harg4) K := by
  simp only [cc0__fps_kernel_eq_skeleton]; unfold cc0__fps_kernel_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  sl_exec
  sl_step
  iapply Hk
  isplitl [H0]; · iexists _; isplitr; swap; (· iexact H0); ipureintro; exact hf0
  isplitl [H1]; · iexists _, _; isplitr; swap; (· iexact H1); ipureintro; rfl
  isplitl [H2]; · iexists _, _; isplitr; swap; (· iexact H2); ipureintro; rfl
  isplitl [H3]; · iexists _, _; isplitr; swap; (· iexact H3); ipureintro; rfl
  iexists _, _; isplitr; swap; (· iexact H4); ipureintro; rfl

/-! ## The proof data, the body obligation and the launch -/

variable (m : (ℓ : Loc nD τ sig) → Buf (Elt F) ℓ) (ρ : Dev nD → PrngReg)

/-- The three results are not described. -/
def forgets0 : Fin 4 → Bool := ![false, true, true, true]

/-- The proof data: arrays as the region finds them, the points' block left in place, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Pipeline.Dat.unnamed (cfg := cfg0) 1 t
    | ⟨2, _⟩ => Pipeline.Dat.unnamed (cfg := cfg0) 2 t
    | ⟨3, _⟩ => Pipeline.Dat.unnamed (cfg := cfg0) 3 t
  Φ _ := Pipeline.ΦA spec0 c
  q _ := fullShare
  owed _ := 0

theorem before0 (c : Dev nD) (t : Fin cfg0.N) (d) : (dats m 0 c).before 0 t d = iblk m c 0 t :=
  before0_0_of m (dats m 0 c) rfl (fun _ => rfl) t d

/-- The region's invariant: the scratch at some contents and the generator register at some state. -/
theorem PhiA0_eq (c : Dev nD) :
    (Pipeline.ΦA spec0 c : sProp 𝕄)
      = iprop((∃ d, owns (c : Thread nD τ) (Memref.whole cc0_scratch0) fullShare d) ∗ ∃ r, prngReg c r) := by
  unfold Pipeline.ΦA; rw [scopedRest0_eq]; simp only [owns_whole]; try rfl

/-- What the body is called with at the point, and what it returns. -/
def bodyPre (c : Dev nD) (t : Fin cfg0.N) : sProp 𝕄 :=
  iprop((dats m 0 c).Φ t.castSucc ∗ (dats m 0 c).owesAt () t.castSucc
    ∗ (∃ d : S3x128x16x128.Idx → Elt F .f32, owns (c : Thread nD τ) (win0_0.stage (cfg0.slots t 0)) fullShare ((dats m 0 c).before 0 t d))
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d))

/-- The body at the point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    show (dats m 0 c).after 0 t = iblk m c 0 t from rfl]
  simp only [before0]
  iintro ⟨⟨HS, Hg⟩, HO, ⟨%d0, H0⟩, H1, H2, H3⟩
  iapply (kernelRun c (win0_0.stage (cfg0.slots t 0)) (hstage0_0 0) (win0_1.stage (cfg0.slots t 1)) (hstage0_1 0)
    (win0_2.stage (cfg0.slots t 2)) (hstage0_2 0) (win0_3.stage (cfg0.slots t 3)) (hstage0_3 0)
    (Memref.whole cc0_scratch0) (Memref.isWhole_whole _) (iblk m c 0 t) _)
  isplitl [H0]; · iexact H0
  isplitl [H1]; · iexact H1
  isplitl [H2]; · iexact H2
  isplitl [H3]; · iexact H3
  isplitl [HS]; · iexact HS
  iintro ⟨H0, H1, H2, H3, HS⟩
  isplitl [HS Hg]
  · isplitl [HS]; · iexact HS
    iexact Hg
  isplitl [HO]; · iexact HO
  isplitl [H0]; · iexact H0
  isplitl [H1]; · iexact H1
  isplitl [H2]; · iexact H2
  iexact H3

/-- The body table's row at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ forgets0 := fun t => by
  rw [bigSep_W0, bigSep_W0, defs₀_row]
  exact triple_restated (sound_body m c t) rfl .rfl fun _ => .rfl

/-- The buffers the host lines after the region write. -/
def T0 : Finset (Ref sig .tc) := {main_v5, main_v6, main_v7, main_v8, main_v9, main_v10}

theorem writes_T0 : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl | rfl | rfl | rfl | rfl
  all_goals
    simp only [StableHlo.unary_writes, StableHlo.reshape_writes, StableHlo.nary_writes, Finset.mem_singleton] at hb
    obtain rfl := Proc.devRef_injective _ hb
    decide

set_option backward.isDefEq.respectTransparency.types false in
/-- Every weakly fair execution of @main ends, every buffer neither staged nor written by the host at its contents at the
    region's entry, every semaphore counter at zero. -/
theorem run_main :
    θ_run defs (onTc (τ := τ) (main (F := F))) (s₀ m ρ)
      (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ 𝒱₀ forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := writes_T0) (hmain := hmain m 𝒱₀) (hA := fun _ _ => rfl) (hΦ := fun _ _ => rfl)

/-- The frame of the kernel, with the counters at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).2 main_arg0 (by decide)).trans (V_main_arg0 m c), h.2⟩) (run_main m ρ)

end Cert.Kernel.Fps

end
-- ==== Proof.IState.lean ====
/- The state of the kernel's two counted loops as plain recursions over the points, and the generated state of the inner
   loop read as that recursion. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Pipeline.FrameBody
public import Idealize.ShloMosaic.Lib.WritesUnit
public import Idealize.ShloMosaic.Lib.Pointwise.Index
public import Idealize.ShloMosaic.Lib.Tactic

@[expose] public section

set_option maxRecDepth 16384

noncomputable section

namespace Cert.KernelIdeal.Fps

open Cert.KernelIdeal Cert.KernelIdeal.Gen
open Idealize.ShloMosaic Idealize.ShloMosaic.TcCoe Idealize.ShloMosaic.Tactic
open Idealize.SL Idealize.SL.Sem

variable {F : FTy → Type} [FloatOps F] [Named F]

abbrev 𝒱₀ : Variants := Variants.none

/-- The points the kernel reads, by coordinate, row, batch and lane. -/
abbrev Pts (F : FTy → Type) := S3x128x16x128.Idx → Elt F .f32
/-- The running distances, by row, batch and lane. -/
abbrev Dst (F : FTy → Type) := S128x16x128.Idx → Elt F .f32
/-- What the inner loop carries: the largest distance and its point's coordinates, by batch and lane. -/
abbrev Acc (F : FTy → Type) := FVec F S16x128 .f32 × FVec F S16x128 .f32 × FVec F S16x128 .f32 × FVec F S16x128 .f32
/-- What the outer loop carries: the current point's coordinates and the three rows under construction. -/
abbrev Car (F : FTy → Type) :=
  FVec F S16x1 .f32 × FVec F S16x1 .f32 × FVec F S16x1 .f32 × FVec F S16x128 .f32 × FVec F S16x128 .f32 × FVec F S16x128 .f32

/-- The lane numbers. -/
abbrev lanes : IVec S16x128 32 := iota .tc S16x128 32 [1] iota_S16x128_d1_w32

/-- Row `j` of the first, second and third coordinate. -/
abbrev rowX (X : Pts F) (j : Fin k0_t2_loop.trips) : Vec F S1x1x16x128 .f32 :=
  View.ld X (Rect.unit (s := S3x128x16x128) (k0_off2 j) S1x1x16x128.size (k0_off2_inb j))
abbrev rowY (X : Pts F) (j : Fin k0_t2_loop.trips) : Vec F S1x1x16x128 .f32 :=
  View.ld X (Rect.unit (s := S3x128x16x128) (k0_off3 j) S1x1x16x128.size (k0_off3_inb j))
abbrev rowZ (X : Pts F) (j : Fin k0_t2_loop.trips) : Vec F S1x1x16x128 .f32 :=
  View.ld X (Rect.unit (s := S3x128x16x128) (k0_off4 j) S1x1x16x128.size (k0_off4_inb j))
/-- Row `j` of the running distances. -/
abbrev rowD (D : Dst F) (j : Fin k0_t2_loop.trips) : Vec F S1x16x128 .f32 :=
  View.ld D (Rect.unit (s := S128x16x128) (k0_off5 j) S1x16x128.size (k0_off5_inb j))

/-- The distances with row `j` replaced. -/
def putRow (D : Dst F) (j : ℕ) (w : Vec F S1x16x128 .f32) : Dst F :=
  fun i => if (i 0).val = j then w (ix3 (0 : Fin 1) (i 1) (i 2)) else D i

/-- One trip of the inner loop. -/
def inStep (X : Pts F) (fx fy fz : FVec F S16x1 .f32) (j : Fin k0_t2_loop.trips) (s : Acc F × Dst F) : Acc F × Dst F :=
  ((k0_pay22 fx fy fz s.1.1 (rowX X j) (rowY X j) (rowZ X j) (rowD s.2 j),
    k0_pay23 fx fy fz s.1.1 s.1.2.1 (rowX X j) (rowY X j) (rowZ X j) (rowD s.2 j),
    k0_pay24 fx fy fz s.1.1 s.1.2.2.1 (rowX X j) (rowY X j) (rowZ X j) (rowD s.2 j),
    k0_pay25 fx fy fz s.1.1 s.1.2.2.2 (rowX X j) (rowY X j) (rowZ X j) (rowD s.2 j)),
   putRow s.2 j.val (k0_pay20 fx fy fz (rowX X j) (rowY X j) (rowZ X j) (rowD s.2 j)))

/-- The inner loop's state before trip `k`, from the distances `D`. -/
def inSt (X : Pts F) (fx fy fz : FVec F S16x1 .f32) (D : Dst F) : ℕ → Acc F × Dst F
  | 0 => ((k0_pay6, k0_pay7, k0_pay7, k0_pay7), D)
  | k + 1 => if h : k < k0_t2_loop.trips then inStep X fx fy fz ⟨k, h⟩ (inSt X fx fy fz D k) else inSt X fx fy fz D k

/-- The inner loop's state at its end. -/
def inEnd (X : Pts F) (fx fy fz : FVec F S16x1 .f32) (D : Dst F) : Acc F × Dst F := inSt X fx fy fz D k0_t2_loop.trips

/-- One trip of the outer loop. -/
def outStep (v0 : IVec S16x128 32) (X : Pts F) (k : Fin k0_t1_loop.trips) (s : Car F × Dst F) : Car F × Dst F :=
  ((k0_pay27 v0 (inEnd X s.1.1 s.1.2.1 s.1.2.2.1 s.2).1.1 (inEnd X s.1.1 s.1.2.1 s.1.2.2.1 s.2).1.2.1,
    k0_pay28 v0 (inEnd X s.1.1 s.1.2.1 s.1.2.2.1 s.2).1.1 (inEnd X s.1.1 s.1.2.1 s.1.2.2.1 s.2).1.2.2.1,
    k0_pay8 (k0_pay29 v0 (inEnd X s.1.1 s.1.2.1 s.1.2.2.1 s.2).1.1 (inEnd X s.1.1 s.1.2.1 s.1.2.2.1 s.2).1.2.2.2),
    k0_pay10 v0 0#32 1#32 k s.1.1 s.1.2.2.2.1,
    k0_pay11 v0 0#32 1#32 k s.1.2.1 s.1.2.2.2.2.1,
    k0_pay12 v0 0#32 1#32 k s.1.2.2.1 s.1.2.2.2.2.2),
   (inEnd X s.1.1 s.1.2.1 s.1.2.2.1 s.2).2)

/-- The outer loop's state before its first trip. -/
def outInit (X : Pts F) : Car F × Dst F :=
  ((k0_pay2 (View.ld X (Rect.unit (s := S3x128x16x128) ![0, 0, 0, 127] S1x1x16x1.size inb_S3x128x16x128_S1x1x16x1_0_0_0_127)),
    k0_pay3 (View.ld X (Rect.unit (s := S3x128x16x128) ![1, 0, 0, 127] S1x1x16x1.size inb_S3x128x16x128_S1x1x16x1_1_0_0_127)),
    k0_pay4 (View.ld X (Rect.unit (s := S3x128x16x128) ![2, 0, 0, 127] S1x1x16x1.size inb_S3x128x16x128_S1x1x16x1_2_0_0_127)),
    k0_pay5, k0_pay5, k0_pay5), k0_pay1)

/-- The outer loop's state before trip `k`. -/
def outSt (v0 : IVec S16x128 32) (X : Pts F) : ℕ → Car F × Dst F
  | 0 => outInit X
  | k + 1 => if h : k < k0_t1_loop.trips then outStep v0 X ⟨k, h⟩ (outSt v0 X k) else outSt v0 X k

theorem inSt_succ (X : Pts F) (fx fy fz : FVec F S16x1 .f32) (D : Dst F) (k : Fin k0_t2_loop.trips) :
    inSt X fx fy fz D (k.val + 1) = inStep X fx fy fz k (inSt X fx fy fz D k.val) := by
  rw [inSt.eq_2]; exact dif_pos k.isLt

theorem outSt_succ (v0 : IVec S16x128 32) (X : Pts F) (k : Fin k0_t1_loop.trips) :
    outSt v0 X (k.val + 1) = outStep v0 X k (outSt v0 X k.val) := by
  rw [outSt.eq_2]; exact dif_pos k.isLt

/-- The rows a finished group of 128 trips leaves in a result: the row under construction after its last trip. -/
def outX (v0 : IVec S16x128 32) (X : Pts F) : S16x16x128.Idx → Elt F .f32 := fun i => (outSt v0 X (128 * ((i 0).val + 1))).1.2.2.2.1 (ix2 (i 1) (i 2))
def outY (v0 : IVec S16x128 32) (X : Pts F) : S16x16x128.Idx → Elt F .f32 := fun i => (outSt v0 X (128 * ((i 0).val + 1))).1.2.2.2.2.1 (ix2 (i 1) (i 2))
def outZ (v0 : IVec S16x128 32) (X : Pts F) : S16x16x128.Idx → Elt F .f32 := fun i => (outSt v0 X (128 * ((i 0).val + 1))).1.2.2.2.2.2 (ix2 (i 1) (i 2))

/-! ## Reading a buffer a row was written into -/

/-- A row written into the distances. -/
theorem read_putRow (arg4 : Memref sig .tc .vmem S128x16x128 .f32) (f : arg4.view.ty.Contents (Elt F)) (k : Fin k0_t2_loop.trips)
    (w : Vec F S1x16x128 .f32) (L : List (View.Piece (Elt F) S128x16x128 .f32)) :
    arg4.view.read (Elt F) (arg4.view.writes (Elt F) f
        ((⟨Rect.unit (s := S128x16x128) (k0_off5 k) S1x16x128.size (k0_off5_inb k), w⟩ : View.Piece (Elt F) S128x16x128 .f32) :: L))
      = putRow (arg4.view.read (Elt F) (arg4.view.writes (Elt F) f L)) k.val w := by
  funext i
  unfold putRow
  by_cases h : (i 0).val = k.val
  · rw [if_pos h]
    refine View.read_writes_cons_unit_of_mem arg4.view f (k0_off5_inb k) w L i _ (k0_off5_eq k) fun a => ?_
    fin_cases a
    · simpa using h
    · exact (Nat.zero_add _).symm
    · exact (Nat.zero_add _).symm
  · rw [if_neg h]
    refine View.read_writes_cons_unit_of_not_mem arg4.view f (k0_off5_inb k) w L i (k0_off5_eq k) 0 ?_
    show (i 0).val < k.val ∨ k.val + 1 ≤ (i 0).val
    omega

/-! ## The generated state of the inner loop -/

section Inner

variable (c : Dev nD) (bd : Option 𝒱₀.V) (arg0 : Memref sig .tc .vmem S3x128x16x128 .f32) (harg0 : arg0.IsWhole)
  (arg1 : Memref sig .tc .vmem S16x16x128 .f32) (harg1 : arg1.IsWhole) (arg2 : Memref sig .tc .vmem S16x16x128 .f32) (harg2 : arg2.IsWhole)
  (arg3 : Memref sig .tc .vmem S16x16x128 .f32) (harg3 : arg3.IsWhole) (arg4 : Memref sig .tc .vmem S128x16x128 .f32) (harg4 : arg4.IsWhole)
  (v0 : IVec S16x128 32) (v12 v13 : FVec F S16x128 .f32) (c0 c1 : BitVec 32) (k1 : Fin k0_t1_loop.trips)
  (a6 a7 a8 : FVec F S16x1 .f32) (a9 a10 a11 : FVec F S16x128 .f32) (X0 : BufTy.Contents (Elt F) arg0.view.ty)

theorem tripR_eq (k : Fin k0_t2_loop.trips) (acc : Acc F) (f : BufTy.Contents (Elt F) arg4.view.ty) :
    tripR_k0_t2 (F := F) 𝒱₀ c bd arg0 harg0 arg1 harg1 arg2 harg2 arg3 harg3 arg4 harg4 v0 v12 v13 c0 c1 k1 a6 a7 a8 a9 a10 a11 X0 k acc f
      = (inStep (arg0.view.read (Elt F) X0) a6 a7 a8 k (acc, arg4.view.read (Elt F) f)).1 := by
  unfold tripR_k0_t2 trip_k0_t2; rfl

theorem tripL_eq (k : Fin k0_t2_loop.trips) (acc : Acc F) (f : BufTy.Contents (Elt F) arg4.view.ty) :
    tripL_k0_t2 (F := F) 𝒱₀ c bd arg0 harg0 arg1 harg1 arg2 harg2 arg3 harg3 arg4 harg4 v0 v12 v13 c0 c1 k1 a6 a7 a8 a9 a10 a11 X0 k acc f
      = [(⟨Rect.unit (s := S128x16x128) (k0_off5 k) S1x16x128.size (k0_off5_inb k),
          k0_pay20 a6 a7 a8 (rowX (arg0.view.read (Elt F) X0) k) (rowY (arg0.view.read (Elt F) X0) k) (rowZ (arg0.view.read (Elt F) X0) k)
            (rowD (arg4.view.read (Elt F) f) k)⟩ : View.Piece (Elt F) S128x16x128 .f32)] := by
  unfold tripL_k0_t2 trip_k0_t2; rfl

/-- Before trip `k` the carried value and the distances are the plain recursion's. -/
theorem st_eq (G : BufTy.Contents (Elt F) arg4.view.ty) (k : ℕ) (hk : k ≤ k0_t2_loop.trips) :
    ((st_k0_t2 (F := F) 𝒱₀ c bd arg0 harg0 arg1 harg1 arg2 harg2 arg3 harg3 arg4 harg4 v0 v12 v13 c0 c1 k1 a6 a7 a8 a9 a10 a11 X0 G
        (k0_pay6, k0_pay7, k0_pay7, k0_pay7) k).1,
      arg4.view.read (Elt F) (arg4.view.writes (Elt F) G (st_k0_t2 (F := F) 𝒱₀ c bd arg0 harg0 arg1 harg1 arg2 harg2 arg3 harg3 arg4 harg4 v0
        v12 v13 c0 c1 k1 a6 a7 a8 a9 a10 a11 X0 G (k0_pay6, k0_pay7, k0_pay7, k0_pay7) k).2))
      = inSt (arg0.view.read (Elt F) X0) a6 a7 a8 (arg4.view.read (Elt F) G) k := by
  induction k with
  | zero => rfl
  | succ k ih =>
    have hk' : k < k0_t2_loop.trips := hk
    have ih := ih hk'.le
    rw [st_k0_t2_succ (F := F) 𝒱₀ c bd arg0 harg0 arg1 harg1 arg2 harg2 arg3 harg3 arg4 harg4 v0 v12 v13 c0 c1 k1 a6 a7 a8 a9 a10 a11 X0 G
      _ ⟨k, hk'⟩, inSt_succ _ _ _ _ _ ⟨k, hk'⟩, ← ih]
    refine Prod.ext ?_ ?_
    · exact tripR_eq ..
    · dsimp only
      rw [tripL_eq, List.singleton_append, read_putRow]
      rfl

end Inner

end Cert.KernelIdeal.Fps

end
-- ==== Proof.IRun.lean ====
/- The body of the kernel's one pallas call run once: what it leaves in its three results is the plain recursion's. -/
module

public import proofs.«01_k».proof.Proof.IState
public import Idealize.ShloMosaic.Lib.Pointwise

@[expose] public section

set_option maxRecDepth 16384

noncomputable section

namespace Cert.KernelIdeal.Fps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Reading a result a group's rows were written into -/

theorem pay13_apply (v0 : IVec S16x128 32) (c0 c1 : BitVec 32) (k : Fin k0_t1_loop.trips) (a : FVec F S16x1 .f32) (b : FVec F S16x128 .f32)
    (i1 : Fin 16) (i2 : Fin 128) : k0_pay13 v0 c0 c1 k a b (ix3 (0 : Fin 1) i1 i2) = k0_pay10 v0 c0 c1 k a b (ix2 i1 i2) := by
  unfold k0_pay13; pointwise

theorem pay14_apply (v0 : IVec S16x128 32) (c0 c1 : BitVec 32) (k : Fin k0_t1_loop.trips) (a : FVec F S16x1 .f32) (b : FVec F S16x128 .f32)
    (i1 : Fin 16) (i2 : Fin 128) : k0_pay14 v0 c0 c1 k a b (ix3 (0 : Fin 1) i1 i2) = k0_pay11 v0 c0 c1 k a b (ix2 i1 i2) := by
  unfold k0_pay14; pointwise

theorem pay15_apply (v0 : IVec S16x128 32) (c0 c1 : BitVec 32) (k : Fin k0_t1_loop.trips) (a : FVec F S16x1 .f32) (b : FVec F S16x128 .f32)
    (i1 : Fin 16) (i2 : Fin 128) : k0_pay15 v0 c0 c1 k a b (ix3 (0 : Fin 1) i1 i2) = k0_pay12 v0 c0 c1 k a b (ix2 i1 i2) := by
  unfold k0_pay15; pointwise

/-- The result's rows finished before trip `k` are the recursion's. -/
def Done (O : S16x16x128.Idx → Elt F .f32) (k : ℕ) (f : S16x16x128.Idx → Elt F .f32) : Prop :=
  ∀ i, 128 * ((i 0).val + 1) ≤ k → f i = O i

/-- Trip `k` writes its group's rows: the rows finished before trip `k + 1` are the recursion's when the rows written are
    at the group's last trip. -/
theorem Done.step {O : S16x16x128.Idx → Elt F .f32} (arg : Memref sig .tc .vmem S16x16x128 .f32) (f : arg.view.ty.Contents (Elt F))
    (k : Fin k0_t1_loop.trips) (w : Vec F S1x16x128 .f32) (h : Done O k.val (arg.view.read (Elt F) f))
    (hw : ∀ i : S16x16x128.Idx, 128 * ((i 0).val + 1) = k.val + 1 → w (ix3 (0 : Fin 1) (i 1) (i 2)) = O i) :
    Done O (k.val + 1) (arg.view.read (Elt F) (arg.view.writes (Elt F) f
      [(⟨Rect.unit (s := S16x16x128) (k0_off1 k) S1x16x128.size (k0_off1_inb k), w⟩ : View.Piece (Elt F) S16x16x128 .f32)])) := by
  intro i hi
  by_cases h0 : (i 0).val = k.val / 128
  · rw [← hw i (by omega)]
    refine View.read_writes_cons_unit_of_mem arg.view f (k0_off1_inb k) w [] i _ (k0_off1_eq k) fun a => ?_
    fin_cases a
    · simpa using h0
    · exact (Nat.zero_add _).symm
    · exact (Nat.zero_add _).symm
  · rw [← h i (by omega)]
    refine View.read_writes_cons_unit_of_not_mem arg.view f (k0_off1_inb k) w [] i (k0_off1_eq k) 0 ?_
    show (i 0).val < k.val / 128 ∨ k.val / 128 + 1 ≤ (i 0).val
    omega

theorem done_zero (O f : S16x16x128.Idx → Elt F .f32) : Done O 0 f := fun i hi => absurd hi (by omega)

theorem done_end {O f : S16x16x128.Idx → Elt F .f32} (h : Done O k0_t1_loop.trips f) : f = O :=
  funext fun i => h i (by
    have h1 : (i 0).val < 16 := (i 0).isLt
    have h2 : k0_t1_loop.trips = 2048 := by decide
    omega)

/-- The carried values and the distances before trip `k` are the recursion's. -/
def At (v0 : IVec S16x128 32) (X : Pts F) (k : ℕ) (acc : Car F) (D : Dst F) : Prop := outSt v0 X k = (acc, D)

set_option warn.classDefReducibility false in
/-- Before trip `k`: the points as they are, the carried values and the distances the recursion's, the finished rows too. -/
@[sl_loop] def loopInv_k0_t1 (c : Dev nD) (arg0 : Memref sig .tc .vmem S3x128x16x128 .f32) (harg0 : arg0.IsWhole)
    (arg1 : Memref sig .tc .vmem S16x16x128 .f32) (harg1 : arg1.IsWhole) (arg2 : Memref sig .tc .vmem S16x16x128 .f32) (harg2 : arg2.IsWhole)
    (arg3 : Memref sig .tc .vmem S16x16x128 .f32) (harg3 : arg3.IsWhole) (arg4 : Memref sig .tc .vmem S128x16x128 .f32) (harg4 : arg4.IsWhole)
    (v0 : IVec S16x128 32) (X : BufTy.Contents (Elt F) arg0.view.ty) (init : Car F) :
    LoopInvTy_k0_t1 (F := F) Unit ℕ (UR sig nD τ) ℕ 𝒱₀ c none Set.univ arg0 harg0 arg1 harg1 arg2 harg2 arg3 harg3 arg4 harg4 v0 init where
  inv := fun k acc => iprop((arg0.view.loc (c : Thread nD τ) ↦[arg0.view.set]{fullShare} X)
    ∗ (∃ f, (arg1.view.loc (c : Thread nD τ) ↦[arg1.view.set]{fullShare} f)
        ∗ ⌜Done (outX v0 (arg0.view.read (Elt F) X)) k (arg1.view.read (Elt F) f)⌝)
    ∗ (∃ f, (arg2.view.loc (c : Thread nD τ) ↦[arg2.view.set]{fullShare} f)
        ∗ ⌜Done (outY v0 (arg0.view.read (Elt F) X)) k (arg2.view.read (Elt F) f)⌝)
    ∗ (∃ f, (arg3.view.loc (c : Thread nD τ) ↦[arg3.view.set]{fullShare} f)
        ∗ ⌜Done (outZ v0 (arg0.view.read (Elt F) X)) k (arg3.view.read (Elt F) f)⌝)
    ∗ (∃ f, (arg4.view.loc (c : Thread nD τ) ↦[arg4.view.set]{fullShare} f)
        ∗ ⌜At v0 (arg0.view.read (Elt F) X) k acc (arg4.view.read (Elt F) f)⌝))
  step := fun k acc => by
    have hk : k.val < 2048 := Nat.lt_of_lt_of_le k.isLt k0_t1_abs.2.1
    obtain ⟨a1, a2, a3, a4, a5, a6⟩ := acc
    iintro ⟨H0, ⟨%f1, H1, %h1⟩, ⟨%f2, H2, %h2⟩, ⟨%f3, H3, %h3⟩, ⟨%f4, H4, %h4⟩⟩
    unfold k0_t1_body
    unfold At at h4
    sl_exec
    sl_step
    isplitl [H0]; · iexact H0
    isplitl [H1]
    · iexists _; isplitl [H1]; (· iexact H1); ipureintro
      refine h1.step arg1 f1 k _ fun i hi => ?_
      unfold outX
      rw [hi, outSt_succ, h4]
      exact pay13_apply ..
    isplitl [H2]
    · iexists _; isplitl [H2]; (· iexact H2); ipureintro
      refine h2.step arg2 f2 k _ fun i hi => ?_
      unfold outY
      rw [hi, outSt_succ, h4]
      exact pay14_apply ..
    isplitl [H3]
    · iexists _; isplitl [H3]; (· iexact H3); ipureintro
      refine h3.step arg3 f3 k _ fun i hi => ?_
      unfold outZ
      rw [hi, outSt_succ, h4]
      exact pay15_apply ..
    iexists _; isplitl [H4]; (· iexact H4); ipureintro
    unfold At
    rw [outSt_succ, h4]
    have e := st_eq c none arg0 harg0 arg1 harg1 arg2 harg2 arg3 harg3 arg4 harg4 v0 k0_pay6 k0_pay7 0#32 1#32 k a1 a2 a3 a4 a5 a6 X f4
      k0_t2_loop.trips le_rfl
    unfold outStep inEnd
    dsimp only
    rw [← e]
    rfl

/-- The distances written whole. -/
theorem read_wholeD (arg4 : Memref sig .tc .vmem S128x16x128 .f32) (f : arg4.view.ty.Contents (Elt F)) (w : Dst F) :
    arg4.view.read (Elt F) (arg4.view.writes (Elt F) f
        [(⟨Rect.unit (s := S128x16x128) ![0, 0, 0] S128x16x128.size inb_S128x16x128_S128x16x128_0_0_0, w⟩ : View.Piece (Elt F) S128x16x128 .f32)])
      = w := by
  funext i
  refine View.read_writes_cons_unit_of_mem arg4.view f _ w [] i i rfl fun a => ?_
  fin_cases a
  · exact (Nat.zero_add _).symm
  · exact (Nat.zero_add _).symm
  · exact (Nat.zero_add _).symm

/-- The state at the outer loop's entry. -/
theorem outSt_entry (arg0 : Memref sig .tc .vmem S3x128x16x128 .f32) (f0 : arg0.view.ty.Contents (Elt F))
    (arg4 : Memref sig .tc .vmem S128x16x128 .f32) (f : arg4.view.ty.Contents (Elt F)) :
    At lanes (arg0.view.read (Elt F) f0) 0
      (k0_pay2 (arg0.view.readAt (Elt F) (Rect.unit (s := S3x128x16x128) ![0, 0, 0, 127] S1x1x16x1.size inb_S3x128x16x128_S1x1x16x1_0_0_0_127).toLoadRect f0),
        k0_pay3 (arg0.view.readAt (Elt F) (Rect.unit (s := S3x128x16x128) ![1, 0, 0, 127] S1x1x16x1.size inb_S3x128x16x128_S1x1x16x1_1_0_0_127).toLoadRect f0),
        k0_pay4 (arg0.view.readAt (Elt F) (Rect.unit (s := S3x128x16x128) ![2, 0, 0, 127] S1x1x16x1.size inb_S3x128x16x128_S1x1x16x1_2_0_0_127).toLoadRect f0),
        k0_pay5, k0_pay5, k0_pay5)
      (arg4.view.read (Elt F)
        (arg4.view.writes (Elt F) f [(⟨Rect.unit (s := S128x16x128) ![0, 0, 0] S128x16x128.size inb_S128x16x128_S128x16x128_0_0_0,
          k0_pay1 (F := F)⟩ : View.Piece (Elt F) S128x16x128 .f32)])) := by unfold At; rw [read_wholeD]; rfl

attribute [local irreducible] outSt outX outY outZ Done At k0_pay1 in
/-- The body's triple: the three results are left at the recursion's rows. -/
theorem kernelRun (c : Dev nD) (arg0 : Memref sig .tc .vmem S3x128x16x128 .f32) (harg0 : arg0.IsWhole)
    (arg1 : Memref sig .tc .vmem S16x16x128 .f32) (harg1 : arg1.IsWhole) (arg2 : Memref sig .tc .vmem S16x16x128 .f32) (harg2 : arg2.IsWhole)
    (arg3 : Memref sig .tc .vmem S16x16x128 .f32) (harg3 : arg3.IsWhole) (arg4 : Memref sig .tc .vmem S128x16x128 .f32) (harg4 : arg4.IsWhole)
    (X : Pts F) (K : PUnit → sProp 𝕄) :
    iprop(owns (c : Thread nD τ) arg0 fullShare X
        ∗ (∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg0 fullShare X
            ∗ owns (c : Thread nD τ) arg1 fullShare (outX lanes X) ∗ owns (c : Thread nD τ) arg2 fullShare (outY lanes X)
            ∗ owns (c : Thread nD τ) arg3 fullShare (outZ lanes X) ∗ (∃ d, owns (c : Thread nD τ) arg4 fullShare d)) -∗ K ⟨⟩))
      ⊢ wp frame (wpE (defs₀ (F := F)) 𝒱₀ c none) Set.univ
          (cc0__fps_kernel arg0 harg0 arg1 harg1 arg2 harg2 arg3 harg3 arg4 harg4) K := by
  simp only [cc0__fps_kernel_eq_skeleton]; unfold cc0__fps_kernel_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  have e1 : Done (outX lanes (arg0.view.read (Elt F) f0)) 0 (arg1.view.read (Elt F) f1) := done_zero _ _
  have e2 : Done (outY lanes (arg0.view.read (Elt F) f0)) 0 (arg2.view.read (Elt F) f2) := done_zero _ _
  have e3 : Done (outZ lanes (arg0.view.read (Elt F) f0)) 0 (arg3.view.read (Elt F) f3) := done_zero _ _
  have e5 := outSt_entry arg0 f0 arg4 arg4.view.junk
  sl_exec
  sl_step
  subst hf0
  iapply Hk
  isplitl [H0]; · iexists _; isplitr; swap; (· iexact H0); ipureintro; rfl
  isplitl [H1]; · iexists _; isplitr; swap; (· iexact H1); ipureintro; exact done_end hL2
  isplitl [H2]; · iexists _; isplitr; swap; (· iexact H2); ipureintro; exact done_end hL4
  isplitl [H3]; · iexists _; isplitr; swap; (· iexact H3); ipureintro; exact done_end hL6
  iexists _, _; isplitr; swap; (· iexact H4); ipureintro; rfl

end Cert.KernelIdeal.Fps

end
-- ==== Proof.IFrame.lean ====
/- The launch of the kernel: its run from any memory, with its result named by the plain recursion over the points. -/
module

public import proofs.«01_k».proof.Proof.IRun
public import Idealize.ShloMosaic.Lib.Pipeline.Quiescent

@[expose] public section

set_option maxRecDepth 16384

noncomputable section

namespace Cert.KernelIdeal.Fps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## The proof data, the body obligation and the launch -/

variable (m : (ℓ : Loc nD τ sig) → Buf (Elt F) ℓ) (ρ : Dev nD → PrngReg)

/-- The proof data: arrays as the region finds them, the points' block left in place, the results the recursion's rows over it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outX lanes (iblk m c 0 t)
    | ⟨2, _⟩ => outY lanes (iblk m c 0 t)
    | ⟨3, _⟩ => outZ lanes (iblk m c 0 t)
  Φ _ := Pipeline.ΦA spec0 c
  q _ := fullShare
  owed _ := 0

theorem before0 (c : Dev nD) (t : Fin cfg0.N) (d) : (dats m 0 c).before 0 t d = iblk m c 0 t :=
  before0_0_of m (dats m 0 c) rfl (fun _ => rfl) t d

/-- The region's invariant: the scratch at some contents and the generator register at some state. -/
theorem PhiA0_eq (c : Dev nD) :
    (Pipeline.ΦA spec0 c : sProp 𝕄)
      = iprop((∃ d, owns (c : Thread nD τ) (Memref.whole cc0_scratch0) fullShare d) ∗ ∃ r, prngReg c r) := by
  unfold Pipeline.ΦA; rw [scopedRest0_eq]; simp only [owns_whole]; try rfl

/-- What the body is called with at the point, and what it returns. -/
def bodyPre (c : Dev nD) (t : Fin cfg0.N) : sProp 𝕄 :=
  iprop((dats m 0 c).Φ t.castSucc ∗ (dats m 0 c).owesAt () t.castSucc
    ∗ (∃ d : S3x128x16x128.Idx → Elt F .f32, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

/-- The body at the point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    show (dats m 0 c).after 0 t = iblk m c 0 t from rfl,
    show (dats m 0 c).after 1 t = outX lanes (iblk m c 0 t) from rfl, show (dats m 0 c).after 2 t = outY lanes (iblk m c 0 t) from rfl,
    show (dats m 0 c).after 3 t = outZ lanes (iblk m c 0 t) from rfl]
  simp only [before0]
  iintro ⟨⟨HS, Hg⟩, HO, ⟨%d0, H0⟩, ⟨%d1, H1⟩, ⟨%d2, H2⟩, ⟨%d3, H3⟩⟩
  iapply (kernelRun c (win0_0.stage (cfg0.slots t 0)) (hstage0_0 0) (win0_1.stage (cfg0.slots t 1)) (hstage0_1 0)
    (win0_2.stage (cfg0.slots t 2)) (hstage0_2 0) (win0_3.stage (cfg0.slots t 3)) (hstage0_3 0)
    (Memref.whole cc0_scratch0) (Memref.isWhole_whole _) (iblk m c 0 t) _)
  isplitl [H0]; · iexact H0
  isplitl [H1]; · iexists _; iexact H1
  isplitl [H2]; · iexists _; iexact H2
  isplitl [H3]; · iexists _; iexact H3
  isplitl [HS]; · iexact HS
  iintro ⟨H0, H1, H2, H3, HS⟩
  isplitl [HS Hg]
  · isplitl [HS]; · iexact HS
    iexact Hg
  isplitl [HO]; · iexact HO
  isplitl [H0]; · iexact H0
  isplitl [H1]; · iexact H1
  isplitl [H2]; · iexact H2
  iexact H3

/-- The body table's row at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- Every weakly fair execution of @main ends, the arrays at what the body left, the rest as the host lines after the
    region leave it, every semaphore counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- What the kernel leaves in its result: the three arrays the region wrote, put together by the host lines after it. -/
def final (c : Dev nD) : Buf (Elt F) ((c.tc : Thread nD τ).loc main_v10) :=
  Pipeline.afterTail₀ cfgs (dats m) 0 (V0 m) [hostOps1] c main_v10

/-- The run of the kernel: the result named, the points unchanged, the counters at zero. -/
theorem run :
    θ_run defs (onTc (τ := τ) (main (F := F))) ⟨m, fun _ => 0, ρ⟩ (fun r => (∀ c : Dev nD,
      r.2.mem ((c.tc : Thread nD τ).loc main_v10) = final m c
        ∧ r.2.mem ((c.tc : Thread nD τ).loc main_arg0) = m ((c.tc : Thread nD τ).loc main_arg0)) ∧ r.2.sem = fun _ => 0) :=
  (θ_run defs _ _).mono (fun _ h => ⟨fun c => ⟨(h.1 c).2 main_v10 (Pipeline.mem_restRefs_of main_v10 (by decide) (by decide)),
    ((h.1 c).2 main_arg0 (Pipeline.mem_restRefs_of main_arg0 (by decide) (by decide))).trans (W_main_arg0 m (dats m) c)⟩, h.2⟩) (run_main m ρ)

end Cert.KernelIdeal.Fps

end
-- ==== Proof.Spec.lean ====
/- Farthest point sampling of one batch over the extended reals: the distances and the chosen index after each step. -/
module

public import Idealize.ShloMosaic.Lib.Pointwise
public import Idealize.ShloMosaic.Init

@[expose] public section

noncomputable section

namespace Farthest

open Idealize.ShloMosaic

/-- The squared distance of two points. -/
def dd (a c : Fin 3 → EReal) : EReal := ∑ j, (a j - c j) * (a j - c j)

/-- The distance that every point starts at. -/
def big : EReal := Ideal.ofBits .f32 0x501502F9#32

/-- A point at which the distance is the greatest. -/
def far (d : Fin 16384 → EReal) : Fin 16384 := (Finite.exists_max d).choose

theorem far_max (d : Fin 16384 → EReal) (n : Fin 16384) : d n ≤ d (far d) := (Finite.exists_max d).choose_spec n

/-- The distances after a step that chose the point `i`. -/
def next (p : Fin 16384 → Fin 3 → EReal) (d : Fin 16384 → EReal) (i : Fin 16384) (n : Fin 16384) : EReal :=
  min (d n) (dd (p n) (p i))

/-- The distances and the chosen index after `k` steps. -/
def seq (p : Fin 16384 → Fin 3 → EReal) : ℕ → (Fin 16384 → EReal) × Fin 16384
  | 0 => (fun _ => big, 0)
  | k + 1 => (next p (seq p k).1 (seq p k).2, far (next p (seq p k).1 (seq p k).2))

/-- The distances after `k` steps. -/
def away (p : Fin 16384 → Fin 3 → EReal) (k : ℕ) : Fin 16384 → EReal := (seq p k).1

/-- The index that step `k` writes down. -/
def idx (p : Fin 16384 → Fin 3 → EReal) (k : ℕ) : Fin 16384 := (seq p k).2

theorem away_zero (p : Fin 16384 → Fin 3 → EReal) : away p 0 = fun _ => big := rfl
theorem idx_zero (p : Fin 16384 → Fin 3 → EReal) : idx p 0 = 0 := rfl
theorem away_succ (p : Fin 16384 → Fin 3 → EReal) (k : ℕ) : away p (k + 1) = next p (away p k) (idx p k) := rfl
theorem idx_succ (p : Fin 16384 → Fin 3 → EReal) (k : ℕ) : idx p (k + 1) = far (away p (k + 1)) := rfl

theorem idx_max (p : Fin 16384 → Fin 3 → EReal) (k : ℕ) (n : Fin 16384) : away p (k + 1) n ≤ away p (k + 1) (idx p (k + 1)) := by
  rw [idx_succ]; exact far_max _ n

/-- No step has two farthest points. -/
def Uniq (p : Fin 16384 → Fin 3 → EReal) : Prop :=
  ∀ k < 2048, ∀ n, (∀ m, away p (k + 1) m ≤ away p (k + 1) n) → n = idx p (k + 1)

theorem sq_nonneg (a : EReal) : 0 ≤ a * a := by
  rcases le_total 0 a with h | h
  · exact EReal.mul_nonneg h h
  · have := EReal.mul_nonneg (EReal.neg_nonneg.mpr h) (EReal.neg_nonneg.mpr h)
    rwa [neg_mul_neg] at this

theorem dd_nonneg (a c : Fin 3 → EReal) : 0 ≤ dd a c := Finset.sum_nonneg fun j _ => sq_nonneg _

theorem ofBits_bot : Ideal.ofBits .f32 0xFF800000#32 = ⊥ := by
  simp [Ideal.ofBits, Ideal.ieee]

theorem big_pos : 0 < big := by
  unfold big
  simp [Ideal.ofBits, Ideal.ieee]
  rw [← EReal.coe_pow, ← EReal.coe_mul]
  exact EReal.coe_pos.mpr (by norm_num)

theorem away_pos (p : Fin 16384 → Fin 3 → EReal) (k : ℕ) (n : Fin 16384) : 0 ≤ away p k n := by
  induction k with
  | zero => exact big_pos.le
  | succ k ih => rw [away_succ]; exact le_min ih (dd_nonneg _ _)

/-- The greatest value of a function, as a fold from minus infinity. -/
theorem fold_max_eq {n : ℕ} (f : Fin n → EReal) (i : Fin n) (h : ∀ m, f m ≤ f i) : Finset.univ.fold max ⊥ f = f i :=
  le_antisymm (Finset.sup_le fun m _ => h m) (Finset.le_sup (f := f) (Finset.mem_univ i))

theorem le_fold_max {n : ℕ} (f : Fin n → EReal) (i : Fin n) : f i ≤ Finset.univ.fold max ⊥ f := Finset.le_sup (f := f) (Finset.mem_univ i)

theorem fold_max_mem {n : ℕ} (hn : 0 < n) (f : Fin n → EReal) : ∃ i, Finset.univ.fold max ⊥ f = f i ∧ ∀ m, f m ≤ f i := by
  haveI : Nonempty (Fin n) := ⟨⟨0, hn⟩⟩
  obtain ⟨i, hi⟩ := Finite.exists_max f
  exact ⟨i, fold_max_eq f i hi, hi⟩

/-- The value picked out by a mask with one bit set, as a fold of the maximum from minus infinity. -/
theorem fold_max_pick {n : ℕ} (f : Fin n → EReal) (w : Fin n → BitVec 1) (i : Fin n) (hi : w i = 1#1) (h : ∀ m, w m = 1#1 → m = i) :
    Finset.univ.fold max ⊥ (fun m => Scalar.select (w m) (f m) ⊥) = f i := by
  have e : ∀ m, Scalar.select (w m) (f m) ⊥ = if m = i then f i else ⊥ := by
    intro m
    by_cases hm : m = i
    · subst hm; rw [if_pos rfl, hi]; rfl
    · rw [if_neg hm]
      have : w m = 0#1 := by
        have h1 : w m ≠ 1#1 := fun hw => hm (h m hw)
        revert h1; generalize w m = v; revert v; decide
      rw [this]; rfl
  rw [fold_max_eq _ i (by intro m; rw [e m, e i, if_pos rfl]; by_cases hm : m = i <;> simp [hm]), e i, if_pos rfl]

/-- The number of set bits of a mask, as the words' sum. -/
theorem fold_count {n : ℕ} (w : Fin n → BitVec 1) :
    Finset.univ.fold IntOp.addi (0#32) (fun m => BitVec.setWidth 32 (w m)) = BitVec.ofNat 32 (Finset.univ.filter fun m => w m = 1#1).card := by
  classical
  have key : ∀ s : Finset (Fin n), s.fold IntOp.addi (0#32) (fun m => BitVec.setWidth 32 (w m)) = BitVec.ofNat 32 (s.filter fun m => w m = 1#1).card := by
    intro s
    induction s using Finset.induction_on with
    | empty => rfl
    | insert a s ha ih =>
      rw [Finset.fold_insert ha, ih, Finset.filter_insert]
      by_cases hw : w a = 1#1
      · rw [if_pos hw, Finset.card_insert_of_notMem (by simp [ha]), hw, Nat.add_comm, BitVec.ofNat_add]; rfl
      · rw [if_neg hw]
        have : w a = 0#1 := by revert hw; generalize w a = v; revert v; decide
        rw [this]
        show BitVec.setWidth 32 0#1 + _ = _
        simp
  exact key _

theorem count_one {n : ℕ} (hn : n < 2 ^ 32) (w : Fin n → BitVec 1)
    (h : Finset.univ.fold IntOp.addi (0#32) (fun m => BitVec.setWidth 32 (w m)) = 1#32) : ∃ i, ∀ m, w m = 1#1 ↔ m = i := by
  rw [fold_count] at h
  have hc : (Finset.univ.filter fun m => w m = 1#1).card ≤ n := (Finset.card_filter_le _ _).trans (by simp)
  have h1 : (Finset.univ.filter fun m => w m = 1#1).card = 1 := by
    have := congrArg BitVec.toNat h
    rw [BitVec.toNat_ofNat, Nat.mod_eq_of_lt (by omega)] at this
    exact this
  obtain ⟨i, hi⟩ := Finset.card_eq_one.mp h1
  refine ⟨i, fun m => ?_⟩
  have := Finset.ext_iff.mp hi m
  simpa using this

end Farthest
-- ==== Proof.KPoint.lean ====
/- The kernel's pure values over the extended reals, read at an index. -/
module

public import proofs.«01_k».proof.Proof.IFrame
public import proofs.«01_k».proof.Proof.Spec
public import Idealize.ShloMosaic.Lib.Pipeline.ValueKit
public import Idealize.ShloMosaic.Lib.Pointwise
public import Idealize.ShloMosaic.Init

@[expose] public section

set_option maxRecDepth 16384

noncomputable section

namespace Cert.KernelIdeal.Fps

open Cert.KernelIdeal Cert.KernelIdeal.Gen
open Idealize.ShloMosaic Idealize.ShloMosaic.TcCoe
open Farthest (dd big far next away idx Uniq)

section Words

theorem cmpi_eq_one {a b : ℕ} (ha : a < 2 ^ 32) (hb : b < 2 ^ 32) : IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    rwa [BitVec.toNat_ofNat, BitVec.toNat_ofNat, Nat.mod_eq_of_lt ha, Nat.mod_eq_of_lt hb] at this
  · rintro rfl; rfl

theorem select_ofBool {α : Type} (p : Prop) [Decidable p] (u v : α) : Scalar.select (BitVec.ofBool (decide p)) u v = if p then u else v := by
  by_cases h : p
  · rw [decide_eq_true h, if_pos h]; rfl
  · rw [decide_eq_false h, if_neg h]; rfl

theorem ofBool_one (p : Prop) [Decidable p] : BitVec.ofBool (decide p) = 1#1 ↔ p := by
  by_cases h : p
  · rw [decide_eq_true h]; exact ⟨fun _ => h, fun _ => rfl⟩
  · rw [decide_eq_false h]; exact ⟨fun e => absurd e (by decide), fun e => absurd e h⟩

/-- Membership in a filter, whatever decides its condition. -/
theorem mem_filter_any {α : Type} {p : α → Prop} (dec : DecidablePred p) {s : Finset α} {a : α} : a ∈ @Finset.filter α p dec s ↔ a ∈ s ∧ p a :=
  Finset.mem_filter

/-- The lane that a trip of the outer loop writes. -/
theorem lane_word : ∀ k : Fin k0_t1_loop.trips, Scalar.remsi (Scf.iv 0#32 1#32 k) 128#32 = BitVec.ofNat 32 (k.val % 128) := by decide +kernel

theorem mask_bot : (Named.named (F := Ideal) κ "mask" (φ := .f32) 0xF149F2CA#32 : EReal) = ⊥ := rfl

end Words

variable (fx fy fz : FVec Ideal S16x1 .f32) (x y z : Vec Ideal S1x1x16x128 .f32) (e : Vec Ideal S1x16x128 .f32) (g h : FVec Ideal S16x128 .f32)
  (b : Fin 16) (l : Fin 128)

theorem pay19_apply : k0_pay19 fx fy fz x y z e (ix2 b l)
    = min (e (ix3 0 b l)) (((x (ix4 0 0 b l) - fx (ix2 b 0)) * (x (ix4 0 0 b l) - fx (ix2 b 0)) + (z (ix4 0 0 b l) - fz (ix2 b 0)) * (z (ix4 0 0 b l) - fz (ix2 b 0)))
      + (y (ix4 0 0 b l) - fy (ix2 b 0)) * (y (ix4 0 0 b l) - fy (ix2 b 0))) := by
  unfold k0_pay19 k0_pay16 k0_pay17 k0_pay18
  dsimp only
  pointwise

theorem pay20_apply : k0_pay20 fx fy fz x y z e (ix3 0 b l) = k0_pay19 fx fy fz x y z e (ix2 b l) := by
  unfold k0_pay20
  pointwise

theorem pay21_apply : k0_pay21 fx fy fz g x y z e (ix2 b l) = BitVec.ofBool (decide (g (ix2 b l) < k0_pay19 fx fy fz x y z e (ix2 b l))) := by
  unfold k0_pay21
  pointwise

theorem pay22_apply : k0_pay22 fx fy fz g x y z e (ix2 b l)
    = if g (ix2 b l) < k0_pay19 fx fy fz x y z e (ix2 b l) then k0_pay19 fx fy fz x y z e (ix2 b l) else g (ix2 b l) := by
  unfold k0_pay22
  refine Eq.trans ?_ (select_ofBool _ _ _)
  rw [← pay21_apply]
  pointwise

theorem pay23_apply : k0_pay23 fx fy fz g h x y z e (ix2 b l)
    = if g (ix2 b l) < k0_pay19 fx fy fz x y z e (ix2 b l) then x (ix4 0 0 b l) else h (ix2 b l) := by
  unfold k0_pay23 k0_pay16
  refine Eq.trans ?_ (select_ofBool _ _ _)
  rw [← pay21_apply]
  pointwise

theorem pay24_apply : k0_pay24 fx fy fz g h x y z e (ix2 b l)
    = if g (ix2 b l) < k0_pay19 fx fy fz x y z e (ix2 b l) then y (ix4 0 0 b l) else h (ix2 b l) := by
  unfold k0_pay24 k0_pay17
  refine Eq.trans ?_ (select_ofBool _ _ _)
  rw [← pay21_apply]
  pointwise

theorem pay25_apply : k0_pay25 fx fy fz g h x y z e (ix2 b l)
    = if g (ix2 b l) < k0_pay19 fx fy fz x y z e (ix2 b l) then z (ix4 0 0 b l) else h (ix2 b l) := by
  unfold k0_pay25 k0_pay18
  refine Eq.trans ?_ (select_ofBool _ _ _)
  rw [← pay21_apply]
  pointwise

theorem pay1_apply (j : Fin 128) : k0_pay1 (F := Ideal) (ix3 j b l) = big := by
  unfold k0_pay1
  pointwise
  rfl

theorem pay2_apply (v : Vec Ideal S1x1x16x1 .f32) : k0_pay2 v (ix2 b 0) = v (ix4 0 0 b 0) := by
  unfold k0_pay2
  pointwise
theorem pay3_apply (v : Vec Ideal S1x1x16x1 .f32) : k0_pay3 v (ix2 b 0) = v (ix4 0 0 b 0) := by
  unfold k0_pay3
  pointwise
theorem pay4_apply (v : Vec Ideal S1x1x16x1 .f32) : k0_pay4 v (ix2 b 0) = v (ix4 0 0 b 0) := by
  unfold k0_pay4
  pointwise

theorem pay6_apply : k0_pay6 (F := Ideal) (ix2 b l) = ⊥ := rfl

theorem pay8_apply : k0_pay8 g (ix2 b 0) = Finset.univ.fold max ⊥ fun l : Fin 128 => g (ix2 b l) := by
  unfold k0_pay8
  dsimp only
  pointwise
  rw [Farthest.ofBits_bot]

theorem pay27_apply : k0_pay27 lanes g h (ix2 b 0) = Finset.univ.fold max ⊥ fun l : Fin 128 => Scalar.select (k0_pay26 lanes g (ix2 b l)) (h (ix2 b l)) ⊥ := by
  unfold k0_pay27
  dsimp only
  pointwise
  rw [Farthest.ofBits_bot, mask_bot]

theorem pay28_apply : k0_pay28 lanes g h (ix2 b 0) = Finset.univ.fold max ⊥ fun l : Fin 128 => Scalar.select (k0_pay26 lanes g (ix2 b l)) (h (ix2 b l)) ⊥ := by
  unfold k0_pay28
  dsimp only
  pointwise
  rw [Farthest.ofBits_bot, mask_bot]

theorem pay29_apply : k0_pay29 lanes g h (ix2 b l) = Scalar.select (k0_pay26 lanes g (ix2 b l)) (h (ix2 b l)) ⊥ := by
  unfold k0_pay29
  pointwise
  rw [mask_bot]

/-- The index a row's arg-max names is a lane, and no lane's value exceeds that lane's. -/
theorem argMax_apply : ∃ r : Fin 128, reduceIndex .argMax 1 S16 g reduces_S16x128_S16 (ix1 b) = BitVec.ofNat 32 r.val
    ∧ ∀ q : Fin 128, g (ix2 b q) ≤ g (ix2 b r) := by
  show ∃ r : Fin 128, Ideal.reduceIndex .argMax 1 reduces_S16x128_S16 g (ix1 b) = BitVec.ofNat 32 r.val ∧ _
  unfold Ideal.reduceIndex
  dsimp only
  obtain ⟨r₀, h₀⟩ := Finite.exists_max fun q : Fin 128 => (g (ix2 b q) : EReal)
  have hfib : ∀ i : S16x128.Idx, reduces_S16x128_S16.drop i = ix1 b ↔ ∃ q : Fin 128, i = ix2 b q := by
    intro i
    constructor
    · intro hd
      refine ⟨i 1, funext fun a => ?_⟩
      match a with
      | ⟨0, _⟩ => exact congrFun hd 0
      | ⟨1, _⟩ => rfl
    · rintro ⟨q, rfl⟩
      funext a
      match a with
      | ⟨0, _⟩ => rfl
  generalize hS : Finset.image (fun i : S16x128.Idx => (i 1).val) _ = S
  have hmem : ∀ v, v ∈ S ↔ ∃ q : Fin 128, q.val = v ∧ ∀ q' : Fin 128, g (ix2 b q') ≤ g (ix2 b q) := by
    intro v
    rw [← hS, Finset.mem_image]
    constructor
    · rintro ⟨i, hi, hv⟩
      obtain ⟨hi1, hi2⟩ := (mem_filter_any _).mp hi
      obtain ⟨q, rfl⟩ := (hfib i).mp (Finset.mem_filter.mp hi1).2
      refine ⟨q, hv, fun q' => ?_⟩
      have := hi2 (ix2 b q') (Finset.mem_filter.mpr ⟨Finset.mem_univ _, (hfib _).mpr ⟨q', rfl⟩⟩)
      rw [if_pos rfl] at this
      exact not_lt.mp this
    · rintro ⟨q, hv, hq⟩
      refine ⟨ix2 b q, (mem_filter_any _).mpr ⟨Finset.mem_filter.mpr ⟨Finset.mem_univ _, (hfib _).mpr ⟨q, rfl⟩⟩, fun i' hi' => ?_⟩, hv⟩
      obtain ⟨q', rfl⟩ := (hfib i').mp (Finset.mem_filter.mp hi').2
      rw [if_pos rfl]
      exact not_lt.mpr (hq q')
  obtain ⟨v, hv⟩ := Finset.min_of_mem ((hmem r₀.val).mpr ⟨r₀, rfl, h₀⟩)
  obtain ⟨q, rfl, hq⟩ := (hmem v).mp (Finset.mem_of_min hv)
  exact ⟨q, by rw [hv]; rfl, hq⟩

/-- The lanes compared with the row's arg-max pick one lane, of the greatest value. -/
theorem pay26_apply : ∃ r : Fin 128, (∀ l : Fin 128, k0_pay26 lanes g (ix2 b l) = 1#1 ↔ l = r) ∧ ∀ q : Fin 128, g (ix2 b q) ≤ g (ix2 b r) := by
  obtain ⟨r, hr, hm⟩ := argMax_apply g b
  refine ⟨r, fun l => ?_, hm⟩
  have e : k0_pay26 lanes g (ix2 b l) = IntOp.cmpi .eq (BitVec.ofNat 32 l.val) (BitVec.ofNat 32 r.val) := by
    rw [← hr]
    unfold k0_pay26
    generalize reduceIndex .argMax 1 S16 g reduces_S16x128_S16 = w
    pointwise
  rw [e, cmpi_eq_one (by omega) (by omega), ofBool_one, Fin.ext_iff]

theorem pay9_apply (k : Fin k0_t1_loop.trips) : k0_pay9 lanes 0#32 1#32 k (ix2 b l) = BitVec.ofBool (decide (l.val = k.val % 128)) := by
  rw [← cmpi_eq_one (by omega) (by omega), ← lane_word]
  unfold k0_pay9
  pointwise

theorem pay10_apply (k : Fin k0_t1_loop.trips) : k0_pay10 lanes 0#32 1#32 k fx g (ix2 b l) = if l.val = k.val % 128 then fx (ix2 b 0) else g (ix2 b l) := by
  rw [← select_ofBool, ← pay9_apply b l]
  unfold k0_pay10
  pointwise

theorem pay11_apply (k : Fin k0_t1_loop.trips) : k0_pay11 lanes 0#32 1#32 k fx g (ix2 b l) = if l.val = k.val % 128 then fx (ix2 b 0) else g (ix2 b l) := by
  rw [← select_ofBool, ← pay9_apply b l]
  unfold k0_pay11
  pointwise

theorem pay12_apply (k : Fin k0_t1_loop.trips) : k0_pay12 lanes 0#32 1#32 k fx g (ix2 b l) = if l.val = k.val % 128 then fx (ix2 b 0) else g (ix2 b l) := by
  rw [← select_ofBool, ← pay9_apply b l]
  unfold k0_pay12
  pointwise

/-! ## Reads of the points and the distances -/

variable (X : Pts Ideal) (D : Dst Ideal) (j : Fin k0_t2_loop.trips)

theorem trips2 : k0_t2_loop.trips = 128 := by decide

theorem rowX_apply : rowX X j (ix4 0 0 b l) = X (ix4 0 (Fin.cast trips2 j) b l) :=
  View.ld_unit_apply_of X _ _ _ _ _ fun a => by
    refine Eq.trans ?_ (congrArg (· + _) (congrFun (k0_off2_eq j) a).symm)
    match a with
    | ⟨0, _⟩ => rfl
    | ⟨1, _⟩ => rfl
    | ⟨2, _⟩ => exact (Nat.zero_add _).symm
    | ⟨3, _⟩ => exact (Nat.zero_add _).symm
theorem rowY_apply : rowY X j (ix4 0 0 b l) = X (ix4 1 (Fin.cast trips2 j) b l) :=
  View.ld_unit_apply_of X _ _ _ _ _ fun a => by
    refine Eq.trans ?_ (congrArg (· + _) (congrFun (k0_off3_eq j) a).symm)
    match a with
    | ⟨0, _⟩ => rfl
    | ⟨1, _⟩ => rfl
    | ⟨2, _⟩ => exact (Nat.zero_add _).symm
    | ⟨3, _⟩ => exact (Nat.zero_add _).symm
theorem rowZ_apply : rowZ X j (ix4 0 0 b l) = X (ix4 2 (Fin.cast trips2 j) b l) :=
  View.ld_unit_apply_of X _ _ _ _ _ fun a => by
    refine Eq.trans ?_ (congrArg (· + _) (congrFun (k0_off4_eq j) a).symm)
    match a with
    | ⟨0, _⟩ => rfl
    | ⟨1, _⟩ => rfl
    | ⟨2, _⟩ => exact (Nat.zero_add _).symm
    | ⟨3, _⟩ => exact (Nat.zero_add _).symm
theorem rowD_apply : rowD D j (ix3 0 b l) = D (ix3 (Fin.cast trips2 j) b l) :=
  View.ld_unit_apply_of D _ _ _ _ _ fun a => by
    refine Eq.trans ?_ (congrArg (· + _) (congrFun (k0_off5_eq j) a).symm)
    match a with
    | ⟨0, _⟩ => rfl
    | ⟨1, _⟩ => exact (Nat.zero_add _).symm
    | ⟨2, _⟩ => exact (Nat.zero_add _).symm

theorem putRow_apply (w : Vec Ideal S1x16x128 .f32) (k : ℕ) (i : Fin 128) :
    putRow D k w (ix3 i b l) = if i.val = k then w (ix3 0 b l) else D (ix3 i b l) := rfl

end Cert.KernelIdeal.Fps
-- ==== Proof.KMean.lean ====
/- The kernel's two loops over the extended reals: the inner loop keeps each lane's farthest point, the outer is the sampling. -/
module

public import proofs.«01_k».proof.Proof.KPoint
public import Idealize.ShloMosaic.Init

@[expose] public section

set_option maxRecDepth 16384

noncomputable section

namespace Cert.KernelIdeal.Fps

open Cert.KernelIdeal Cert.KernelIdeal.Gen
open Idealize.ShloMosaic Idealize.ShloMosaic.TcCoe
open Farthest (dd big far next away idx Uniq)

/-- The point stored at row `j` and lane `l`: lanes hold blocks of 128 points, the last block first. -/
def nOf (j l : Fin 128) : Fin 16384 := ⟨(127 - l.val) * 128 + j.val, by omega⟩

theorem nOf_surj (n : Fin 16384) : ∃ j l, n = nOf j l :=
  ⟨⟨n.val % 128, by omega⟩, ⟨127 - n.val / 128, by omega⟩, Fin.ext (by show n.val = (127 - (127 - n.val / 128)) * 128 + n.val % 128; omega)⟩

theorem trips1 : k0_t1_loop.trips = 2048 := by decide

section
variable (b : Fin 16) (p : Fin 16384 → Fin 3 → EReal) (X : Pts Ideal)
  (hX : ∀ (c : Fin 3) (j l : Fin 128), X (ix4 c j b l) = p (nOf j l) c)

include hX

/-- A row's new distances. -/
theorem row_dist (fx fy fz : FVec Ideal S16x1 .f32) (q : Fin 3 → EReal) (hx : fx (ix2 b 0) = q 0) (hy : fy (ix2 b 0) = q 1) (hz : fz (ix2 b 0) = q 2)
    (D : Dst Ideal) (j : Fin k0_t2_loop.trips) (l : Fin 128) :
    k0_pay19 fx fy fz (rowX X j) (rowY X j) (rowZ X j) (rowD D j) (ix2 b l)
      = min (D (ix3 (Fin.cast trips2 j) b l)) (dd (p (nOf (Fin.cast trips2 j) l)) q) := by
  rw [pay19_apply, rowX_apply, rowY_apply, rowZ_apply, rowD_apply, hX, hX, hX, hx, hy, hz]
  unfold dd
  rw [Fin.sum_univ_three, add_right_comm]

/-- The inner loop: rows done hold the new distances, and each lane carries the farthest of its points so far. -/
theorem inner (fx fy fz : FVec Ideal S16x1 .f32) (q : Fin 3 → EReal) (hx : fx (ix2 b 0) = q 0) (hy : fy (ix2 b 0) = q 1) (hz : fz (ix2 b 0) = q 2)
    (D : Dst Ideal) (d d' : Fin 16384 → EReal) (hD : ∀ j l, D (ix3 j b l) = d (nOf j l)) (hd' : ∀ n, d' n = min (d n) (dd (p n) q)) (h0 : ∀ n, 0 ≤ d' n)
    (k : ℕ) (hk : k ≤ 128) :
    (∀ j l, (inSt X fx fy fz D k).2 (ix3 j b l) = if j.val < k then d' (nOf j l) else d (nOf j l))
      ∧ ∀ l : Fin 128, (k = 0 ∧ (inSt X fx fy fz D k).1.1 (ix2 b l) = (⊥ : EReal))
        ∨ ∃ j : Fin 128, j.val < k ∧ (inSt X fx fy fz D k).1.1 (ix2 b l) = d' (nOf j l)
          ∧ (inSt X fx fy fz D k).1.2.1 (ix2 b l) = p (nOf j l) 0 ∧ (inSt X fx fy fz D k).1.2.2.1 (ix2 b l) = p (nOf j l) 1
          ∧ (inSt X fx fy fz D k).1.2.2.2 (ix2 b l) = p (nOf j l) 2
          ∧ ∀ j' : Fin 128, j'.val < k → d' (nOf j' l) ≤ d' (nOf j l) := by
  induction k with
  | zero => exact ⟨fun j l => (hD j l).trans (if_neg (Nat.not_lt_zero _)).symm, fun l => Or.inl ⟨rfl, rfl⟩⟩
  | succ k ih =>
    obtain ⟨h1, h2⟩ := ih (by omega)
    have hk' : k < k0_t2_loop.trips := by rw [trips2]; omega
    have hrow : ∀ l, k0_pay19 fx fy fz (rowX X ⟨k, hk'⟩) (rowY X ⟨k, hk'⟩) (rowZ X ⟨k, hk'⟩) (rowD (inSt X fx fy fz D k).2 ⟨k, hk'⟩) (ix2 b l)
        = d' (nOf ⟨k, by omega⟩ l) := by
      intro l
      rw [row_dist b p X hX fx fy fz q hx hy hz, hd', h1, if_neg (by show ¬ (k < k); omega)]
      rfl
    rw [inSt_succ X fx fy fz D ⟨k, hk'⟩]
    dsimp only
    generalize inSt X fx fy fz D k = s at h1 h2 hrow ⊢
    obtain ⟨⟨a, u, v, w⟩, E⟩ := s
    unfold inStep
    dsimp only at h1 h2 hrow ⊢
    refine ⟨fun j l => ?_, fun l => ?_⟩
    · rw [putRow_apply, pay20_apply, hrow, h1]
      by_cases e : j.val = k
      · rw [if_pos e, if_pos (by omega)]
        exact congrArg (fun j => d' (nOf j l)) (Fin.ext e.symm)
      · rw [if_neg e]
        by_cases e' : j.val < k
        · rw [if_pos e', if_pos (by omega)]
        · rw [if_neg e', if_neg (by omega)]
    · right
      rw [pay22_apply, pay23_apply, pay24_apply, pay25_apply, hrow, rowX_apply, rowY_apply, rowZ_apply, hX, hX, hX]
      by_cases hlt : a (ix2 b l) < d' (nOf ⟨k, by omega⟩ l)
      · rw [if_pos hlt, if_pos hlt, if_pos hlt, if_pos hlt]
        refine ⟨⟨k, by omega⟩, Nat.lt_succ_self k, rfl, rfl, rfl, rfl, fun j' hj' => ?_⟩
        rcases Nat.lt_succ_iff_lt_or_eq.mp hj' with h | h
        · rcases h2 l with ⟨e, -⟩ | ⟨j, -, ha, -, -, -, hm⟩
          · omega
          · exact ((hm j' h).trans_eq ha.symm).trans hlt.le
        · exact le_of_eq (congrArg (fun j => d' (nOf j l)) (Fin.ext h))
      · rw [if_neg hlt, if_neg hlt, if_neg hlt, if_neg hlt]
        rcases h2 l with ⟨-, e⟩ | ⟨j, hj, ha, hu, hv, hw, hm⟩
        · exact absurd (lt_of_lt_of_le EReal.bot_lt_zero (h0 _)) (by rw [← e]; exact hlt)
        · refine ⟨j, by omega, ha, hu, hv, hw, fun j' hj' => ?_⟩
          rcases Nat.lt_succ_iff_lt_or_eq.mp hj' with h | h
          · exact hm j' h
          · rw [show j' = ⟨k, by omega⟩ from Fin.ext h, ← ha]; exact not_lt.mp hlt

/-- The inner loop and the choice among the lanes: the new distances, and the coordinates of a farthest point. -/
theorem choice (fx fy fz : FVec Ideal S16x1 .f32) (q : Fin 3 → EReal) (hx : fx (ix2 b 0) = q 0) (hy : fy (ix2 b 0) = q 1) (hz : fz (ix2 b 0) = q 2)
    (D : Dst Ideal) (d d' : Fin 16384 → EReal) (hD : ∀ j l, D (ix3 j b l) = d (nOf j l)) (hd' : ∀ n, d' n = min (d n) (dd (p n) q)) (h0 : ∀ n, 0 ≤ d' n) :
    (∀ j l, (inEnd X fx fy fz D).2 (ix3 j b l) = d' (nOf j l))
      ∧ ∃ n, (∀ m, d' m ≤ d' n)
        ∧ k0_pay27 lanes (inEnd X fx fy fz D).1.1 (inEnd X fx fy fz D).1.2.1 (ix2 b 0) = p n 0
        ∧ k0_pay28 lanes (inEnd X fx fy fz D).1.1 (inEnd X fx fy fz D).1.2.2.1 (ix2 b 0) = p n 1
        ∧ k0_pay8 (k0_pay29 lanes (inEnd X fx fy fz D).1.1 (inEnd X fx fy fz D).1.2.2.2) (ix2 b 0) = p n 2 := by
  obtain ⟨h1, h2⟩ := inner b p X hX fx fy fz q hx hy hz D d d' hD hd' h0 128 le_rfl
  have e : inEnd X fx fy fz D = inSt X fx fy fz D 128 := by unfold inEnd; rw [trips2]
  rw [e]
  generalize inSt X fx fy fz D 128 = s at h1 h2 ⊢
  refine ⟨fun j l => (h1 j l).trans (if_pos j.isLt), ?_⟩
  have h3 : ∀ l : Fin 128, ∃ j : Fin 128, s.1.1 (ix2 b l) = d' (nOf j l)
      ∧ s.1.2.1 (ix2 b l) = p (nOf j l) 0 ∧ s.1.2.2.1 (ix2 b l) = p (nOf j l) 1 ∧ s.1.2.2.2 (ix2 b l) = p (nOf j l) 2
      ∧ ∀ j' : Fin 128, d' (nOf j' l) ≤ d' (nOf j l) := by
    intro l
    rcases h2 l with ⟨e, -⟩ | ⟨j, -, ha, hu, hv, hw, hm⟩
    · exact absurd e (by decide)
    · exact ⟨j, ha, hu, hv, hw, fun j' => hm j' j'.isLt⟩
  obtain ⟨r, hr, hmax⟩ := pay26_apply s.1.1 b
  obtain ⟨j, ha, hu, hv, hw, hm⟩ := h3 r
  have pick : ∀ h : FVec Ideal S16x128 .f32, (Finset.univ.fold max (⊥ : EReal) fun l : Fin 128 => Scalar.select (k0_pay26 lanes s.1.1 (ix2 b l)) (h (ix2 b l)) ⊥) = h (ix2 b r) :=
    fun h => Farthest.fold_max_pick (fun l => h (ix2 b l)) (fun l => k0_pay26 lanes s.1.1 (ix2 b l)) r ((hr r).mpr rfl) fun l hl => (hr l).mp hl
  refine ⟨nOf j r, fun m => ?_, ?_, ?_, ?_⟩
  · obtain ⟨j', l, rfl⟩ := nOf_surj m
    obtain ⟨j₂, ha₂, -, -, -, hm₂⟩ := h3 l
    exact (hm₂ j').trans ((ha₂.symm.trans_le (hmax l)).trans_eq ha)
  · rw [pay27_apply, pick, hu]
  · rw [pay28_apply, pick, hv]
  · rw [pay8_apply, show (fun l : Fin 128 => k0_pay29 lanes s.1.1 s.1.2.2.2 (ix2 b l))
      = fun l => Scalar.select (k0_pay26 lanes s.1.1 (ix2 b l)) (s.1.2.2.2 (ix2 b l)) ⊥ from funext fun l => pay29_apply _ _ b l, pick, hw]

/-- The outer loop is the sampling: after `k` trips it holds the current point and the distances, and in the rows
    under construction the last 128 points chosen. -/
theorem outer (hu : Uniq p) (k : ℕ) (hk : k ≤ 2048) :
    (outSt lanes X k).1.1 (ix2 b 0) = p (idx p k) 0 ∧ (outSt lanes X k).1.2.1 (ix2 b 0) = p (idx p k) 1
      ∧ (outSt lanes X k).1.2.2.1 (ix2 b 0) = p (idx p k) 2
      ∧ (∀ j l, (outSt lanes X k).2 (ix3 j b l) = away p k (nOf j l))
      ∧ ∀ (s : ℕ) (l : Fin 128), s < k → k ≤ s + 128 → l.val = s % 128 →
        (outSt lanes X k).1.2.2.2.1 (ix2 b l) = p (idx p s) 0 ∧ (outSt lanes X k).1.2.2.2.2.1 (ix2 b l) = p (idx p s) 1
          ∧ (outSt lanes X k).1.2.2.2.2.2 (ix2 b l) = p (idx p s) 2 := by
  induction k with
  | zero =>
    have hn : nOf 0 127 = 0 := rfl
    refine ⟨?_, ?_, ?_, fun j l => pay1_apply b l j, fun s l hs => absurd hs (Nat.not_lt_zero _)⟩
    · refine (pay2_apply b _).trans ((View.ld_unit_apply_of X _ _ _ _ (ix4 0 0 b 127) fun a => ?_).trans (hX 0 0 127))
      match a with
      | ⟨0, _⟩ => rfl
      | ⟨1, _⟩ => rfl
      | ⟨2, _⟩ => exact (Nat.zero_add _).symm
      | ⟨3, _⟩ => rfl
    · refine (pay3_apply b _).trans ((View.ld_unit_apply_of X _ _ _ _ (ix4 1 0 b 127) fun a => ?_).trans (hX 1 0 127))
      match a with
      | ⟨0, _⟩ => rfl
      | ⟨1, _⟩ => rfl
      | ⟨2, _⟩ => exact (Nat.zero_add _).symm
      | ⟨3, _⟩ => rfl
    · refine (pay4_apply b _).trans ((View.ld_unit_apply_of X _ _ _ _ (ix4 2 0 b 127) fun a => ?_).trans (hX 2 0 127))
      match a with
      | ⟨0, _⟩ => rfl
      | ⟨1, _⟩ => rfl
      | ⟨2, _⟩ => exact (Nat.zero_add _).symm
      | ⟨3, _⟩ => rfl
  | succ k ih =>
    obtain ⟨hx, hy, hz, hD, hr⟩ := ih (by omega)
    have hk' : k < k0_t1_loop.trips := by rw [trips1]; omega
    rw [outSt_succ lanes X ⟨k, hk'⟩]
    dsimp only
    generalize outSt lanes X k = s at hx hy hz hD hr ⊢
    obtain ⟨⟨fx, fy, fz, rx, ry, rz⟩, D⟩ := s
    dsimp only at hx hy hz hD hr
    obtain ⟨hE, n, hn, c0, c1, c2⟩ := choice b p X hX fx fy fz (p (idx p k)) hx hy hz D (away p k) (away p (k + 1)) hD (fun n => rfl) (Farthest.away_pos p (k + 1))
    have en : n = idx p (k + 1) := hu k (by omega) n hn
    rw [en] at c0 c1 c2
    unfold outStep
    dsimp only
    refine ⟨c0, c1, c2, hE, fun s l hs hs' hl => ?_⟩
    rw [pay10_apply, pay11_apply, pay12_apply]
    dsimp only
    by_cases e : s = k
    · subst e
      rw [if_pos hl, if_pos hl, if_pos hl]
      exact ⟨hx, hy, hz⟩
    · have hne : ¬ l.val = k % 128 := by omega
      rw [if_neg hne, if_neg hne, if_neg hne]
      exact hr s l (by omega) (by omega) hl

/-- The rows a finished group leaves. -/
theorem rows (hu : Uniq p) (g : Fin 16) (l : Fin 128) :
    outX lanes X (ix3 g b l) = p (idx p (128 * g.val + l.val)) 0 ∧ outY lanes X (ix3 g b l) = p (idx p (128 * g.val + l.val)) 1
      ∧ outZ lanes X (ix3 g b l) = p (idx p (128 * g.val + l.val)) 2 :=
  (outer b p X hX hu (128 * (g.val + 1)) (by omega)).2.2.2.2 (128 * g.val + l.val) l (by omega) (by omega) (by omega)

end

end Cert.KernelIdeal.Fps
-- ==== Proof.KHost.lean ====
/- The host lines round the kernel over the extended reals: the points it is given, and its three results put together. -/
module

public import proofs.«01_k».proof.Proof.KMean
public import proofs.«01_k».proof.Proof.IFrame
public import Idealize.ShloMosaic.Lib.StableHlo.RunRead
public import Idealize.ShloMosaic.Lib.StableHlo.ReadAt
public import Idealize.ShloMosaic.Init

@[expose] public section

set_option maxRecDepth 16384

noncomputable section

namespace Cert.KernelIdeal.Fps

open Cert.KernelIdeal Cert.KernelIdeal.Gen
open Idealize.ShloMosaic Idealize.ShloMosaic.TcCoe
open Farthest (dd big far next away idx Uniq)

/-- The points laid out for the kernel. -/
def laid (x : FVec Ideal S16x16384x3 .f32) : FVec Ideal S3x128x16x128 .f32 :=
  Host.reverse [3] (transpose S3x128x16x128 [0, 3, 1, 2] (shapeCast S3x16x128x128
    (transpose S3x16x16384 [2, 0, 1] x transposes_S16x16384x3_S3x16x16384_2_0_1) shapeCasts_S3x16x16384_S3x16x128x128)
    transposes_S3x16x128x128_S3x128x16x128_0_3_1_2)

theorem laid_apply (x : FVec Ideal S16x16384x3 .f32) (c : Fin 3) (j l : Fin 128) (b : Fin 16) :
    laid x (ix4 c j b l) = x (ix3 b (nOf j l) c) := by
  unfold laid
  pointwise
  refine congrArg (fun n => x (ix3 b n c)) (Fin.ext ?_)
  show l.rev.val * 128 + j.val = (127 - l.val) * 128 + j.val
  rw [Fin.val_rev]
  omega

/-- The three results put together. -/
def joined (u v w : FVec Ideal S16x16x128 .f32) : FVec Ideal S16x2048x3 .f32 :=
  shapeCast S16x2048x3 (transpose S16x16x128x3 [1, 0, 2, 3] (concatenate S16x16x128x3 3
    [⟨S16x16x128x1, broadcastInDim S16x16x128x1 ![0, 1, 2] bcast_S16x16x128_S16x16x128x1_0_1_2 u⟩,
      ⟨S16x16x128x1, broadcastInDim S16x16x128x1 ![0, 1, 2] bcast_S16x16x128_S16x16x128x1_0_1_2 v⟩,
      ⟨S16x16x128x1, broadcastInDim S16x16x128x1 ![0, 1, 2] bcast_S16x16x128_S16x16x128x1_0_1_2 w⟩] concatenates_S16x16x128x1_S16x16x128x1_S16x16x128x1_S16x16x128x3_d3)
    transposes_S16x16x128x3_S16x16x128x3_1_0_2_3) shapeCasts_S16x16x128x3_S16x2048x3

theorem joined_apply (u v w : FVec Ideal S16x16x128 .f32) (b : Fin 16) (s : Fin 2048) (j : Fin 3) :
    joined u v w (ix3 b s j) = ![u, v, w] j (ix3 ⟨s.val / 128, by omega⟩ b ⟨s.val % 128, by omega⟩) := by
  unfold joined
  pointwise
  fin_cases j <;> rfl

/-- What the lines before the kernel leave where it reads its points. -/
theorem before_read (W : Valuation τ sig (Elt Ideal)) :
    StableHlo.after (List.flatten [hostOps0]) W (Proc.devRef .tc main_v3)
      = laid (W (Proc.devRef .tc main_arg0)) := by
  unfold hostOps0
  after_reads_simp
  rfl

/-- What the lines after the kernel make of its three results. -/
theorem after_read (W : Valuation τ sig (Elt Ideal)) :
    StableHlo.after (List.flatten [hostOps1]) W (Proc.devRef .tc main_v10)
      = joined (W (Proc.devRef .tc main_v4_0)) (W (Proc.devRef .tc main_v4_1)) (W (Proc.devRef .tc main_v4_2)) := by
  unfold hostOps1
  after_reads_simp
  rfl

variable (m : (ℓ : Loc nD τ sig) → Buf (Elt Ideal) ℓ) (c : Dev nD)

/-- The points as launched. -/
def arg : FVec Ideal S16x16384x3 .f32 := m ((c.tc : Thread nD τ).loc main_arg0)

/-- The points as the kernel's one block holds them. -/
theorem block_apply (t : Fin cfg0.N) (d : Fin 3) (j l : Fin 128) (b : Fin 16) :
    (iblk m c 0 t : FVec Ideal S3x128x16x128 .f32) (ix4 d j b l) = arg m c (ix3 b (nOf j l) d) := by
  refine Eq.trans ?_ (laid_apply (arg m c) d j l b)
  refine Eq.trans ?_ (congrFun (before_read (fun r => m (c, r))) (ix4 d j b l))
  blk_simp [iblk]
  refine congrArg (V m c main_v3) ?_
  fin_cases t
  funext a
  fin_cases a <;> exact Fin.ext (by simp [ix4]; try rfl)

/-- The single point of the grid. -/
def t₀ : Fin cfg0.N := ⟨0, by decide⟩

theorem array_inj : Function.Injective (Pipeline.arrRef spec0) := by decide

/-- The first coordinates of the samples, after the kernel. -/
theorem array1 : (dats m 0 c).arrAt 1 cfg0.N = outX lanes (iblk m c 0 t₀) := by
  refine (dats m 0 c).arrAt_eq_of_covers 1 _ (by decide +kernel) fun t hf y => ?_
  blk_simp
  fin_cases t
  refine congrArg (outX lanes (iblk m c 0 t₀)) ?_
  funext a
  fin_cases a <;> exact Fin.ext (by simp; try rfl)

/-- The second coordinates of the samples, after the kernel. -/
theorem array2 : (dats m 0 c).arrAt 2 cfg0.N = outY lanes (iblk m c 0 t₀) := by
  refine (dats m 0 c).arrAt_eq_of_covers 2 _ (by decide +kernel) fun t hf y => ?_
  blk_simp
  fin_cases t
  refine congrArg (outY lanes (iblk m c 0 t₀)) ?_
  funext a
  fin_cases a <;> exact Fin.ext (by simp; try rfl)

/-- The third coordinates of the samples, after the kernel. -/
theorem array3 : (dats m 0 c).arrAt 3 cfg0.N = outZ lanes (iblk m c 0 t₀) := by
  refine (dats m 0 c).arrAt_eq_of_covers 3 _ (by decide +kernel) fun t hf y => ?_
  blk_simp
  fin_cases t
  refine congrArg (outZ lanes (iblk m c 0 t₀)) ?_
  funext a
  fin_cases a <;> exact Fin.ext (by simp; try rfl)

/-- The launch's result: the kernel's three arrays put together. -/
theorem final_eq : final m c
    = joined (outX lanes (iblk m c 0 t₀)) (outY lanes (iblk m c 0 t₀)) (outZ lanes (iblk m c 0 t₀)) := by
  unfold final Pipeline.afterTail₀
  refine (after_read _).trans ?_
  have h1 := (Pipeline.withArrays_arr spec0 array_inj c (V0 m c) (fun w => (dats m 0 c).arrAt w cfg0.N) 1).trans (array1 m c)
  have h2 := (Pipeline.withArrays_arr spec0 array_inj c (V0 m c) (fun w => (dats m 0 c).arrAt w cfg0.N) 2).trans (array2 m c)
  have h3 := (Pipeline.withArrays_arr spec0 array_inj c (V0 m c) (fun w => (dats m 0 c).arrAt w cfg0.N) 3).trans (array3 m c)
  exact congr (congr (congrArg joined h1) h2) h3

/-- A coordinate of a batch's points. -/
def pt (x : FVec Ideal S16x16384x3 .f32) (b : Fin 16) (n : Fin 16384) (j : Fin 3) : EReal := x (ix3 b n j)

/-- The launch ends with the samples. -/
theorem result (b : Fin 16) (hu : Uniq (pt (arg m c) b)) (s : Fin 2048) (j : Fin 3) :
    (final m c : FVec Ideal S16x2048x3 .f32) (ix3 b s j) = pt (arg m c) b (idx (pt (arg m c) b) s.val) j := by
  have h := rows b (pt (arg m c) b) (iblk m c 0 t₀) (fun d j l => block_apply m c t₀ d j l b) hu
    ⟨s.val / 128, by omega⟩ ⟨s.val % 128, by omega⟩
  have hs : 128 * (s.val / 128) + s.val % 128 = s.val := by omega
  refine (congrFun (final_eq m c) (ix3 b s j)).trans ((joined_apply _ _ _ b s j).trans ?_)
  simp only [hs] at h
  fin_cases j
  · exact h.1
  · exact h.2.1
  · exact h.2.2

end Cert.KernelIdeal.Fps
-- ==== Proof.RRun.lean ====
/- The reference: its operations in lists, the counted loop, and its run from any memory, with what every buffer ends at named by the loop's fold. -/
module

public import proofs.«01_k».proof.Defs
public import proofs.«01_k».proof.Proof.Gen.ReferenceIdeal
public import Idealize.ShloMosaic.Lib.StableHlo.RunLoop
public import Idealize.ShloMosaic.Lib.StableHlo.RunRead
public import Idealize.ShloMosaic.Adequacy
public import Idealize.ShloMosaic.Init

@[expose] public section

set_option maxRecDepth 16384

noncomputable section

namespace Cert.ReferenceIdeal.Fps

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held afterL atTrip entryContents finalContents Plain CondSpec)

variable {F : FTy → Type} [FloatOps F]

/-! ## The operations -/

/-- What runs before the loop: the starting arrays and the carried values' copies. -/
abbrev preOps : List (HloOp τ sig (Elt F)) :=
  [ StableHlo.nullary main_c (constantI S_ 32 0#32),
    StableHlo.unary main_c main_v0 (broadcastInDim S16x2048 ![] bcast_S_S16x2048 : (⟨S_, .i32⟩ : BufTy).Contents (Elt F) → (⟨S16x2048, .i32⟩ : BufTy).Contents (Elt F)),
    StableHlo.nullary main_cst (constant S_ .f32 0x501502F9#32),
    StableHlo.unary main_cst main_v1 (broadcastInDim S16x16384 ![] bcast_S_S16x16384 : (⟨S_, .f32⟩ : BufTy).Contents (Elt F) → (⟨S16x16384, .f32⟩ : BufTy).Contents (Elt F)),
    StableHlo.nullary main_c_0 (constantI S_ 32 0#32),
    StableHlo.unary main_c_0 main_v2 (broadcastInDim S16 ![] bcast_S_S16 : (⟨S_, .i32⟩ : BufTy).Contents (Elt F) → (⟨S16, .i32⟩ : BufTy).Contents (Elt F)),
    StableHlo.nullary main_c_1 (constantI S_ 32 0#32),
    StableHlo.nullary main_c_2 (constantI S_ 32 0#32),
    StableHlo.unary main_arg0 main_v3_0 id,
    StableHlo.unary main_c_2 main_v3_1 id,
    StableHlo.unary main_c_1 main_v3_2 id,
    StableHlo.unary main_v0 main_v3_3 id,
    StableHlo.unary main_v1 main_v3_4 id,
    StableHlo.unary main_v2 main_v3_5 id ]

/-- The loop's condition. -/
abbrev condOps : List (HloOp τ sig (Elt F)) :=
  [ StableHlo.nullary main_while0c_c_8 (constantI S_ 32 2048#32),
    StableHlo.binary main_v3_1 main_while0c_c_8 main_while0c_v6 (cmpi .slt : (⟨S_, .i32⟩ : BufTy).Contents (Elt F) → (⟨S_, .i32⟩ : BufTy).Contents (Elt F) → (⟨S_, .i1⟩ : BufTy).Contents (Elt F)) ]

/-- The loop's body up to its first call: the chosen index is written into the results. -/
abbrev writeOps : List (HloOp τ sig (Elt F)) :=
  [ StableHlo.nullary main_while0b_c_8 (constantI S_ 32 1#32),
    StableHlo.binary main_v3_2 main_while0b_c_8 main_while0b_v6 (addi : (⟨S_, .i32⟩ : BufTy).Contents (Elt F) → (⟨S_, .i32⟩ : BufTy).Contents (Elt F) → (⟨S_, .i32⟩ : BufTy).Contents (Elt F)),
    StableHlo.nullary main_while0b_c_9 (constantI S_ 32 0#32),
    StableHlo.binary main_v3_2 main_while0b_c_9 main_while0b_v7 (cmpi .slt : (⟨S_, .i32⟩ : BufTy).Contents (Elt F) → (⟨S_, .i32⟩ : BufTy).Contents (Elt F) → (⟨S_, .i1⟩ : BufTy).Contents (Elt F)),
    StableHlo.nullary main_while0b_c_10 (constantI S_ 32 2048#32),
    StableHlo.binary main_v3_2 main_while0b_c_10 main_while0b_v8 (addi : (⟨S_, .i32⟩ : BufTy).Contents (Elt F) → (⟨S_, .i32⟩ : BufTy).Contents (Elt F) → (⟨S_, .i32⟩ : BufTy).Contents (Elt F)),
    StableHlo.ternary main_while0b_v7 main_while0b_v8 main_v3_2 main_while0b_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v9 main_while0b_v10 (id : (⟨S_, .i32⟩ : BufTy).Contents (Elt F) → (⟨S_, .i32⟩ : BufTy).Contents (Elt F)),
    StableHlo.unary main_while0b_v10 main_while0b_v11 (broadcastInDim S1 ![] bcast_S_S1 : (⟨S_, .i32⟩ : BufTy).Contents (Elt F) → (⟨S1, .i32⟩ : BufTy).Contents (Elt F)),
    StableHlo.ternary main_v3_3 main_while0b_v11 main_v3_5 main_while0b_v12 ((fun x i u => Host.scatter scatter_S16x2048_S1_S16_0_1_1_0 (fun _ b => b) x i u) : (⟨S16x2048, .i32⟩ : BufTy).Contents (Elt F) → (⟨S1, .i32⟩ : BufTy).Contents (Elt F) → (⟨S16, .i32⟩ : BufTy).Contents (Elt F) → (⟨S16x2048, .i32⟩ : BufTy).Contents (Elt F)),
    StableHlo.unary main_v3_5 main_while0b_v13 (broadcastInDim S16x1x1 ![0] bcast_S16_S16x1x1_0 : (⟨S16, .i32⟩ : BufTy).Contents (Elt F) → (⟨S16x1x1, .i32⟩ : BufTy).Contents (Elt F)) ]

/-- The body's first call: the chosen point's coordinates. -/
abbrev takeOps : List (HloOp τ sig (Elt F)) :=
  [ StableHlo.nullary main_while0b_call0_c (constantI S_ 32 0#32),
    StableHlo.unary main_while0b_call0_c main_while0b_call0_v0 ((broadcastInDim S16x1x1 ![] bcast_S_S16x1x1) : (⟨S_, .i32⟩ : BufTy).Contents (Elt F) → (⟨S16x1x1, .i32⟩ : BufTy).Contents (Elt F)),
    StableHlo.binary main_while0b_v13 main_while0b_call0_v0 main_while0b_call0_v1 ((cmpi .slt) : (⟨S16x1x1, .i32⟩ : BufTy).Contents (Elt F) → (⟨S16x1x1, .i32⟩ : BufTy).Contents (Elt F) → (⟨S16x1x1, .i1⟩ : BufTy).Contents (Elt F)),
    StableHlo.nullary main_while0b_call0_c_0 (constantI S_ 32 16384#32),
    StableHlo.unary main_while0b_call0_c_0 main_while0b_call0_v2 ((broadcastInDim S16x1x1 ![] bcast_S_S16x1x1) : (⟨S_, .i32⟩ : BufTy).Contents (Elt F) → (⟨S16x1x1, .i32⟩ : BufTy).Contents (Elt F)),
    StableHlo.binary main_while0b_v13 main_while0b_call0_v2 main_while0b_call0_v3 (addi : (⟨S16x1x1, .i32⟩ : BufTy).Contents (Elt F) → (⟨S16x1x1, .i32⟩ : BufTy).Contents (Elt F) → (⟨S16x1x1, .i32⟩ : BufTy).Contents (Elt F)),
    StableHlo.ternary main_while0b_call0_v1 main_while0b_call0_v3 main_while0b_v13 main_while0b_call0_v4 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    StableHlo.nullary main_while0b_call0_c_1 (constantI S1 32 16383#32),
    StableHlo.nullary main_while0b_call0_c_2 (constantI S_ 32 0#32),
    StableHlo.unary main_while0b_call0_c_2 main_while0b_call0_v5 ((broadcastInDim S16x1x1 ![] bcast_S_S16x1x1) : (⟨S_, .i32⟩ : BufTy).Contents (Elt F) → (⟨S16x1x1, .i32⟩ : BufTy).Contents (Elt F)),
    StableHlo.binary main_while0b_call0_v4 main_while0b_call0_v5 main_while0b_call0_v6 ((cmpi .sge) : (⟨S16x1x1, .i32⟩ : BufTy).Contents (Elt F) → (⟨S16x1x1, .i32⟩ : BufTy).Contents (Elt F) → (⟨S16x1x1, .i1⟩ : BufTy).Contents (Elt F)),
    StableHlo.unary main_while0b_call0_c_1 main_while0b_call0_v7 ((broadcastInDim S1x1x1 ![2] bcast_S1_S1x1x1_2) : (⟨S1, .i32⟩ : BufTy).Contents (Elt F) → (⟨S1x1x1, .i32⟩ : BufTy).Contents (Elt F)),
    StableHlo.unary main_while0b_call0_v7 main_while0b_call0_v8 ((broadcastInDim S16x1x1 ![0, 1, 2] bcast_S1x1x1_S16x1x1_0_1_2) : (⟨S1x1x1, .i32⟩ : BufTy).Contents (Elt F) → (⟨S16x1x1, .i32⟩ : BufTy).Contents (Elt F)),
    StableHlo.binary main_while0b_call0_v4 main_while0b_call0_v8 main_while0b_call0_v9 ((cmpi .sle) : (⟨S16x1x1, .i32⟩ : BufTy).Contents (Elt F) → (⟨S16x1x1, .i32⟩ : BufTy).Contents (Elt F) → (⟨S16x1x1, .i1⟩ : BufTy).Contents (Elt F)),
    StableHlo.binary main_while0b_call0_v6 main_while0b_call0_v9 main_while0b_call0_v10 (andi : (⟨S16x1x1, .i1⟩ : BufTy).Contents (Elt F) → (⟨S16x1x1, .i1⟩ : BufTy).Contents (Elt F) → (⟨S16x1x1, .i1⟩ : BufTy).Contents (Elt F)),
    StableHlo.nullary main_while0b_call0_c_3 (constantI S_ 1 1#1),
    StableHlo.binary main_while0b_call0_v10 main_while0b_call0_c_3 main_while0b_call0_v11 ((fun x v => Host.reduce IntOp.andi x v reducesTo_S16x1x1_S16x1_d2 h_S_) : (⟨S16x1x1, .i1⟩ : BufTy).Contents (Elt F) → (⟨S_, .i1⟩ : BufTy).Contents (Elt F) → (⟨S16x1, .i1⟩ : BufTy).Contents (Elt F)),
    StableHlo.binary main_v3_0 main_while0b_call0_v4 main_while0b_call0_v12 ((fun x i => Host.gather gather_S16x16384x3_S16x1x1_S16x1x3_2_1_0_0_1_2_113 x i) : (⟨S16x16384x3, .f32⟩ : BufTy).Contents (Elt F) → (⟨S16x1x1, .i32⟩ : BufTy).Contents (Elt F) → (⟨S16x1x3, .f32⟩ : BufTy).Contents (Elt F)),
    StableHlo.unary main_while0b_call0_v11 main_while0b_call0_v13 ((broadcastInDim S16x1x3 ![0, 1] bcast_S16x1_S16x1x3_0_1) : (⟨S16x1, .i1⟩ : BufTy).Contents (Elt F) → (⟨S16x1x3, .i1⟩ : BufTy).Contents (Elt F)),
    StableHlo.nullary main_while0b_call0_cst (constant S_ .f32 0x7FC00000#32),
    StableHlo.unary main_while0b_call0_cst main_while0b_call0_v14 ((broadcastInDim S16x1x3 ![] bcast_S_S16x1x3) : (⟨S_, .f32⟩ : BufTy).Contents (Elt F) → (⟨S16x1x3, .f32⟩ : BufTy).Contents (Elt F)),
    StableHlo.ternary main_while0b_call0_v13 main_while0b_call0_v12 main_while0b_call0_v14 main_while0b_v14 (select : (⟨S16x1x3, .i1⟩ : BufTy).Contents (Elt F) → (⟨S16x1x3, .f32⟩ : BufTy).Contents (Elt F) → (⟨S16x1x3, .f32⟩ : BufTy).Contents (Elt F) → (⟨S16x1x3, .f32⟩ : BufTy).Contents (Elt F)) ]

/-- The distances to the chosen point and the running minimum. -/
abbrev distOps : List (HloOp τ sig (Elt F)) :=
  [ StableHlo.unary main_while0b_v14 main_while0b_v15 (broadcastInDim S16x16384x3 ![0, 1, 2] bcast_S16x1x3_S16x16384x3_0_1_2 : (⟨S16x1x3, .f32⟩ : BufTy).Contents (Elt F) → (⟨S16x16384x3, .f32⟩ : BufTy).Contents (Elt F)),
    StableHlo.binary main_v3_0 main_while0b_v15 main_while0b_v16 (subf : (⟨S16x16384x3, .f32⟩ : BufTy).Contents (Elt F) → (⟨S16x16384x3, .f32⟩ : BufTy).Contents (Elt F) → (⟨S16x16384x3, .f32⟩ : BufTy).Contents (Elt F)),
    StableHlo.binary main_while0b_v16 main_while0b_v16 main_while0b_v17 (mulf : (⟨S16x16384x3, .f32⟩ : BufTy).Contents (Elt F) → (⟨S16x16384x3, .f32⟩ : BufTy).Contents (Elt F) → (⟨S16x16384x3, .f32⟩ : BufTy).Contents (Elt F)),
    StableHlo.nullary main_while0b_cst_11 (constant S_ .f32 0x00000000#32),
    StableHlo.binary main_while0b_v17 main_while0b_cst_11 main_while0b_v18 ((fun x v => Host.reduceAdd x v reducesTo_S16x16384x3_S16x16384_d2 h_S_) : (⟨S16x16384x3, .f32⟩ : BufTy).Contents (Elt F) → (⟨S_, .f32⟩ : BufTy).Contents (Elt F) → (⟨S16x16384, .f32⟩ : BufTy).Contents (Elt F)),
    StableHlo.binary main_v3_4 main_while0b_v18 main_while0b_v19 (minimumf : (⟨S16x16384, .f32⟩ : BufTy).Contents (Elt F) → (⟨S16x16384, .f32⟩ : BufTy).Contents (Elt F) → (⟨S16x16384, .f32⟩ : BufTy).Contents (Elt F)) ]

/-- The body's second call: the index of the farthest point. -/
abbrev argOps : List (HloOp τ sig (Elt F)) :=
  [ StableHlo.nullary main_while0b_call1_v0 (iotaInDim S16x16384 32 1),
    StableHlo.nullary main_while0b_call1_cst (constant S_ .f32 0xFF800000#32),
    StableHlo.nullary main_while0b_call1_c (constantI S_ 32 0#32),
    StableHlo.quaternary main_while0b_v19 main_while0b_call1_v0 main_while0b_call1_cst main_while0b_call1_c main_while0b_call1_v1_0 ((fun x y u v j => (Host.argReduce reducer_argmax_f32_i32 x y u v reducesTo_S16x16384_S16_d1 h_S_ j).1) : (⟨S16x16384, .f32⟩ : BufTy).Contents (Elt F) → (⟨S16x16384, .i32⟩ : BufTy).Contents (Elt F) → (⟨S_, .f32⟩ : BufTy).Contents (Elt F) → (⟨S_, .i32⟩ : BufTy).Contents (Elt F) → (⟨S16, .f32⟩ : BufTy).Contents (Elt F)),
    StableHlo.quaternary main_while0b_v19 main_while0b_call1_v0 main_while0b_call1_cst main_while0b_call1_c main_while0b_v20 ((fun x y u v j => (Host.argReduce reducer_argmax_f32_i32 x y u v reducesTo_S16x16384_S16_d1 h_S_ j).2) : (⟨S16x16384, .f32⟩ : BufTy).Contents (Elt F) → (⟨S16x16384, .i32⟩ : BufTy).Contents (Elt F) → (⟨S_, .f32⟩ : BufTy).Contents (Elt F) → (⟨S_, .i32⟩ : BufTy).Contents (Elt F) → (⟨S16, .i32⟩ : BufTy).Contents (Elt F)) ]

/-- The counter and the carried values' copies. -/
abbrev stepOps : List (HloOp τ sig (Elt F)) :=
  [ StableHlo.nullary main_while0b_c_12 (constantI S_ 32 1#32),
    StableHlo.binary main_v3_1 main_while0b_c_12 main_while0b_v21 (addi : (⟨S_, .i32⟩ : BufTy).Contents (Elt F) → (⟨S_, .i32⟩ : BufTy).Contents (Elt F) → (⟨S_, .i32⟩ : BufTy).Contents (Elt F)),
    StableHlo.unary main_while0b_v21 main_v3_1 id,
    StableHlo.unary main_while0b_v6 main_v3_2 id,
    StableHlo.unary main_while0b_v12 main_v3_3 id,
    StableHlo.unary main_while0b_v19 main_v3_4 id,
    StableHlo.unary main_while0b_v20 main_v3_5 id ]

/-- After the loop: the chosen indices reshaped, -/
abbrev lastOps : List (HloOp τ sig (Elt F)) :=
  [ StableHlo.unary main_v3_3 main_v4 (broadcastInDim S16x2048x1 ![0, 1] bcast_S16x2048_S16x2048x1_0_1 : (⟨S16x2048, .i32⟩ : BufTy).Contents (Elt F) → (⟨S16x2048x1, .i32⟩ : BufTy).Contents (Elt F)) ]

/-- and the chosen points' coordinates gathered. -/
abbrev gatherOps : List (HloOp τ sig (Elt F)) :=
  [ StableHlo.nullary main_call2_c (constantI S_ 32 0#32),
    StableHlo.unary main_call2_c main_call2_v0 ((broadcastInDim S16x2048x1 ![] bcast_S_S16x2048x1) : (⟨S_, .i32⟩ : BufTy).Contents (Elt F) → (⟨S16x2048x1, .i32⟩ : BufTy).Contents (Elt F)),
    StableHlo.binary main_v4 main_call2_v0 main_call2_v1 ((cmpi .slt) : (⟨S16x2048x1, .i32⟩ : BufTy).Contents (Elt F) → (⟨S16x2048x1, .i32⟩ : BufTy).Contents (Elt F) → (⟨S16x2048x1, .i1⟩ : BufTy).Contents (Elt F)),
    StableHlo.nullary main_call2_c_0 (constantI S_ 32 16384#32),
    StableHlo.unary main_call2_c_0 main_call2_v2 ((broadcastInDim S16x2048x1 ![] bcast_S_S16x2048x1) : (⟨S_, .i32⟩ : BufTy).Contents (Elt F) → (⟨S16x2048x1, .i32⟩ : BufTy).Contents (Elt F)),
    StableHlo.binary main_v4 main_call2_v2 main_call2_v3 (addi : (⟨S16x2048x1, .i32⟩ : BufTy).Contents (Elt F) → (⟨S16x2048x1, .i32⟩ : BufTy).Contents (Elt F) → (⟨S16x2048x1, .i32⟩ : BufTy).Contents (Elt F)),
    StableHlo.ternary main_call2_v1 main_call2_v3 main_v4 main_call2_v4 (select : (⟨S16x2048x1, .i1⟩ : BufTy).Contents (Elt F) → (⟨S16x2048x1, .i32⟩ : BufTy).Contents (Elt F) → (⟨S16x2048x1, .i32⟩ : BufTy).Contents (Elt F) → (⟨S16x2048x1, .i32⟩ : BufTy).Contents (Elt F)),
    StableHlo.nullary main_call2_c_1 (constantI S1 32 16383#32),
    StableHlo.nullary main_call2_c_2 (constantI S_ 32 0#32),
    StableHlo.unary main_call2_c_2 main_call2_v5 ((broadcastInDim S16x2048x1 ![] bcast_S_S16x2048x1) : (⟨S_, .i32⟩ : BufTy).Contents (Elt F) → (⟨S16x2048x1, .i32⟩ : BufTy).Contents (Elt F)),
    StableHlo.binary main_call2_v4 main_call2_v5 main_call2_v6 ((cmpi .sge) : (⟨S16x2048x1, .i32⟩ : BufTy).Contents (Elt F) → (⟨S16x2048x1, .i32⟩ : BufTy).Contents (Elt F) → (⟨S16x2048x1, .i1⟩ : BufTy).Contents (Elt F)),
    StableHlo.unary main_call2_c_1 main_call2_v7 ((broadcastInDim S1x1x1 ![2] bcast_S1_S1x1x1_2) : (⟨S1, .i32⟩ : BufTy).Contents (Elt F) → (⟨S1x1x1, .i32⟩ : BufTy).Contents (Elt F)),
    StableHlo.unary main_call2_v7 main_call2_v8 ((broadcastInDim S16x2048x1 ![0, 1, 2] bcast_S1x1x1_S16x2048x1_0_1_2) : (⟨S1x1x1, .i32⟩ : BufTy).Contents (Elt F) → (⟨S16x2048x1, .i32⟩ : BufTy).Contents (Elt F)),
    StableHlo.binary main_call2_v4 main_call2_v8 main_call2_v9 ((cmpi .sle) : (⟨S16x2048x1, .i32⟩ : BufTy).Contents (Elt F) → (⟨S16x2048x1, .i32⟩ : BufTy).Contents (Elt F) → (⟨S16x2048x1, .i1⟩ : BufTy).Contents (Elt F)),
    StableHlo.binary main_call2_v6 main_call2_v9 main_call2_v10 (andi : (⟨S16x2048x1, .i1⟩ : BufTy).Contents (Elt F) → (⟨S16x2048x1, .i1⟩ : BufTy).Contents (Elt F) → (⟨S16x2048x1, .i1⟩ : BufTy).Contents (Elt F)),
    StableHlo.nullary main_call2_c_3 (constantI S_ 1 1#1),
    StableHlo.binary main_call2_v10 main_call2_c_3 main_call2_v11 ((fun x v => Host.reduce IntOp.andi x v reducesTo_S16x2048x1_S16x2048_d2 h_S_) : (⟨S16x2048x1, .i1⟩ : BufTy).Contents (Elt F) → (⟨S_, .i1⟩ : BufTy).Contents (Elt F) → (⟨S16x2048, .i1⟩ : BufTy).Contents (Elt F)),
    StableHlo.binary main_arg0 main_call2_v4 main_call2_v12 ((fun x i => Host.gather gather_S16x16384x3_S16x2048x1_S16x2048x3_2_1_0_0_1_2_113 x i) : (⟨S16x16384x3, .f32⟩ : BufTy).Contents (Elt F) → (⟨S16x2048x1, .i32⟩ : BufTy).Contents (Elt F) → (⟨S16x2048x3, .f32⟩ : BufTy).Contents (Elt F)),
    StableHlo.unary main_call2_v11 main_call2_v13 ((broadcastInDim S16x2048x3 ![0, 1] bcast_S16x2048_S16x2048x3_0_1) : (⟨S16x2048, .i1⟩ : BufTy).Contents (Elt F) → (⟨S16x2048x3, .i1⟩ : BufTy).Contents (Elt F)),
    StableHlo.nullary main_call2_cst (constant S_ .f32 0x7FC00000#32),
    StableHlo.unary main_call2_cst main_call2_v14 ((broadcastInDim S16x2048x3 ![] bcast_S_S16x2048x3) : (⟨S_, .f32⟩ : BufTy).Contents (Elt F) → (⟨S16x2048x3, .f32⟩ : BufTy).Contents (Elt F)),
    StableHlo.ternary main_call2_v13 main_call2_v12 main_call2_v14 main_v5 (select : (⟨S16x2048x3, .i1⟩ : BufTy).Contents (Elt F) → (⟨S16x2048x3, .f32⟩ : BufTy).Contents (Elt F) → (⟨S16x2048x3, .f32⟩ : BufTy).Contents (Elt F) → (⟨S16x2048x3, .f32⟩ : BufTy).Contents (Elt F)) ]

theorem preOps_sub : (preOps (F := F)).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

theorem condOps_sub : (condOps (F := F)).Forall fun op => op.bufs ⊆ StableHlo.tcRefs τ sig :=
  ⟨StableHlo.nullary_bufs_sub .., StableHlo.binary_bufs_sub ..⟩

theorem writeOps_sub : (writeOps (F := F)).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.unary_bufs_sub ..⟩

theorem takeOps_sub : (takeOps (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem distOps_sub : (distOps (F := F)).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩

theorem argOps_sub : (argOps (F := F)).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

theorem stepOps_sub : (stepOps (F := F)).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩

theorem lastOps_sub : (lastOps (F := F)).Forall fun op => op.bufs ⊆ StableHlo.tcRefs τ sig :=
  StableHlo.unary_bufs_sub ..

theorem gatherOps_sub : (gatherOps (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- The stretches before the loop, of the loop's body, and after the loop. -/
abbrev preI : List (List (HloOp τ sig (Elt F))) := [preOps]
abbrev bodyI : List (List (HloOp τ sig (Elt F))) := [writeOps, takeOps, distOps, argOps, stepOps]
abbrev postI : List (List (HloOp τ sig (Elt F))) := [lastOps, gatherOps]

theorem pre_plain : Plain (preI (F := F)) := .cons preOps_sub .nil
theorem body_plain : Plain (bodyI (F := F)) :=
  .cons writeOps_sub (.cons takeOps_sub (.cons distOps_sub (.cons argOps_sub (.cons stepOps_sub .nil))))
theorem post_plain : Plain (postI (F := F)) := .cons lastOps_sub (.cons gatherOps_sub .nil)

theorem main_eq (c : Dev nD) : main (F := F) c
    = Pipeline.chain (((preI (F := F)).map fun ops => (StableHlo.seq ops : Prog _ PUnit)) ++ HostLoop.enter 0 :: (postI (F := F)).map fun ops => (StableHlo.seq ops : Prog _ PUnit)) := by
  simp only [preI, postI, List.map_cons, List.map_nil, List.cons_append, List.nil_append]
  rewrite [StableHlo.chain_seq_cons, Pipeline.chain_cons, StableHlo.chain_seq_cons, Pipeline.chain_cons]
  chain_rfl

theorem body_eq : main_while0_body (F := F) = Pipeline.chain ((bodyI (F := F)).map fun ops => (StableHlo.seq ops : Prog _ PUnit)) := by
  simp only [bodyI, List.map_cons, List.map_nil]
  rewrite [StableHlo.chain_seq_cons, Pipeline.chain_cons, StableHlo.chain_seq_cons, Pipeline.chain_cons, StableHlo.chain_seq_cons]
  chain_rfl

/-! ## The counter -/

/-- No semaphore exists, so every semaphore reads zero. -/
theorem sem_zero (s : GSem nD τ sig → ℤ) : s = fun _ => 0 := by
  funext g
  rcases g with ⟨t, s | s⟩
  · exact Fin.elim0 s
  · exact Fin.elim0 s

variable (m : (ℓ : Loc nD τ sig) → Buf (Elt F) ℓ) (ρ : Dev nD → PrngReg)

/-- Every buffer's contents before the `k`-th test of the condition. -/
abbrev Wk (k : ℕ) (c : Dev nD) : Valuation τ sig (Elt F) := atTrip condOps bodyI (entryContents preI m) k c

theorem Wk_succ (k : ℕ) (c : Dev nD) : Wk m (k + 1) c = after (bodyI (F := F)).flatten (after condOps (Wk m k c)) := by
  show afterL _ _ = _
  rw [StableHlo.afterL_eq_after_flatten]

theorem counter (k : ℕ) (c : Dev nD) : (Wk m k c (Proc.devRef .tc main_v3_1) : S_.Idx → BitVec 32) = fun _ => BitVec.ofNat 32 k := by
  induction k with
  | zero =>
    show (after (preOps (F := F)) _ (Proc.devRef .tc main_v3_1) : S_.Idx → BitVec 32) = _
    after_reads_simp
    rfl
  | succ k ih =>
    rw [Wk_succ]
    generalize Wk m k c = W at ih ⊢
    after_reads_simp
    rw [ih]
    funext i
    show BitVec.ofNat 32 k + 1#32 = _
    rw [BitVec.ofNat_add]

/-- An operation on the TensorCore's references touches unscoped buffers only. -/
theorem sub_uc (op : HloOp τ sig (Elt F)) (h : op.bufs ⊆ StableHlo.tcRefs τ sig) : op.bufs ⊆ Pipeline.ucRefs τ sig := fun b hb =>
  Finset.mem_filter.mpr ⟨h hb, fun h' => Bool.false_ne_true ((op.no_scoped b hb).symm.trans h')⟩

theorem test_iff (k : ℕ) (hk : k ≤ 2048) : IntOp.cmpi .slt (BitVec.ofNat 32 k) 2048#32 = 1#1 ↔ k < 2048 := by
  have h : (BitVec.ofNat 32 k).slt 2048#32 = decide (k < 2048) := by
    rw [BitVec.slt_eq_decide, BitVec.toInt_eq_toNat_of_lt (by rw [BitVec.toNat_ofNat]; omega)]
    rw [BitVec.toNat_ofNat, Nat.mod_eq_of_lt (by omega)]
    exact decide_eq_decide.mpr (by rw [show (2048#32).toInt = 2048 from by decide]; omega)
  show BitVec.ofBool ((BitVec.ofNat 32 k).slt 2048#32) = 1#1 ↔ _
  rw [h]
  by_cases hk' : k < 2048 <;> simp [hk']

set_option backward.isDefEq.respectTransparency.types false in
theorem cond_spec : CondSpec (pcfgs (F := F)) defs₀ loops main_while0_cond condOps bodyI (entryContents preI m) 2048 := by
  intro k hk c bd
  have hctr := counter m k c
  unfold main_while0_cond
  rw [wp_bind]
  iintro ⟨Hb, Hh⟩
  iapply (StableHlo.wp_hlo_within (Variants.lift Variants.none) (c : Thread nD τ) bd Set.univ (sub_uc _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_uc _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v3_1 HostLoop.idx0)
        (HloOp.result _ (Wk m k c) main_while0c_c_8 HostLoop.idx0) = 1#1) (k < 2048)
    rw [StableHlo.nullary_result_ne _ _ _ _ (by decide), StableHlo.nullary_result, hctr]
    exact test_iff k hk
  isplitl [Hb]; · iexact Hb
  rw [StableHlo.after_cons, StableHlo.after_cons, StableHlo.after_nil]
  iexact Hh

/-- The reference's run: every buffer ends at the fold of the operations. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 2048 m c (Proc.devRef .tc b)) :=
  StableHlo.run_loop pcfgs defs₀ loops main 0 main_while0_cond main_while0_body rfl preI bodyI postI condOps pre_plain body_plain post_plain
    main_eq body_eq 2048 m ρ (cond_spec m)

/-- One trip: the condition's operations, then the body's. -/
theorem trip_arg0 (W : Valuation τ sig (Elt F)) :
    after (bodyI (F := F)).flatten (after condOps W) (Proc.devRef .tc main_arg0) = W (Proc.devRef .tc main_arg0) := by
  after_reads_simp

theorem pre_arg0 (W : Valuation τ sig (Elt F)) : after (preOps (F := F)) W (Proc.devRef .tc main_arg0) = W (Proc.devRef .tc main_arg0) := by
  after_reads_simp

theorem Wk_arg0 (k : ℕ) (c : Dev nD) : Wk m k c (Proc.devRef .tc main_arg0) = m ((c.tc : Thread nD τ).loc main_arg0) := by
  induction k with
  | zero =>
    exact pre_arg0 (StableHlo.launchContents m c)
  | succ k ih => rw [Wk_succ, trip_arg0, ih]

theorem final_eq (c : Dev nD) : finalContents condOps preI bodyI postI 2048 m c
    = after (postI (F := F)).flatten (after condOps (Wk m 2048 c)) := by
  show afterL _ _ = _
  rw [StableHlo.afterL_eq_after_flatten]

theorem final_arg0 (c : Dev nD) : finalContents condOps preI bodyI postI 2048 m c (Proc.devRef .tc main_arg0) = m ((c.tc : Thread nD τ).loc main_arg0) := by
  rw [final_eq, ← Wk_arg0 m 2048 c]
  generalize Wk m 2048 c = W
  after_reads_simp

/-- The reference's frame: it ends, its argument as it was and no semaphore off zero. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run defs _ _).mono (fun r h => ⟨fun c => (h c main_arg0 rfl).trans (final_arg0 m c), sem_zero _⟩) (run m ρ)

end Cert.ReferenceIdeal.Fps
-- ==== Proof.RValue.lean ====
/- The reference's operations read at an index: the take, the write of a column, the argmax. -/
module

public import proofs.«01_k».proof.Proof.RRun
public import proofs.«01_k».proof.Proof.Spec
public import Idealize.ShloMosaic.Lib.Routing.OpsOne
public import Idealize.ShloMosaic.Lib.Pointwise
public import Idealize.ShloMosaic.Init

@[expose] public section

set_option maxRecDepth 16384

noncomputable section

namespace Cert.ReferenceIdeal.Fps

open Cert.ReferenceIdeal Cert.ReferenceIdeal.Gen
open Idealize.ShloMosaic Idealize.ShloMosaic.TcCoe
open Idealize.ShloMosaic.StableHlo (after)
open Farthest (dd big far next away idx Uniq)

/-! ## The operations as functions -/

section Ops
variable {F : FTy → Type} [FloatOps F]

/-- The index as the take reads it: a negative one counts from the end. -/
def wrap (i : IVec S16x1x1 32) : IVec S16x1x1 32 :=
  select (cmpi .slt i (broadcastInDim S16x1x1 ![] bcast_S_S16x1x1 (constantI S_ 32 0#32)))
    (addi i (broadcastInDim S16x1x1 ![] bcast_S_S16x1x1 (constantI S_ 32 16384#32))) i

/-- Whether it names a point. -/
def inside (i : IVec S16x1x1 32) : IVec S16x1 1 :=
  Host.reduce IntOp.andi
    (andi (cmpi .sge i (broadcastInDim S16x1x1 ![] bcast_S_S16x1x1 (constantI S_ 32 0#32)))
      (cmpi .sle i (broadcastInDim S16x1x1 ![0, 1, 2] bcast_S1x1x1_S16x1x1_0_1_2
        (broadcastInDim S1x1x1 ![2] bcast_S1_S1x1x1_2 (constantI S1 32 16383#32)))))
    (constantI S_ 1 1#1) reducesTo_S16x1x1_S16x1_d2 h_S_

/-- The point taken in each batch. -/
def taken (x : FVec F S16x16384x3 .f32) (i : IVec S16 32) : FVec F S16x1x3 .f32 :=
  select (broadcastInDim S16x1x3 ![0, 1] bcast_S16x1_S16x1x3_0_1 (inside (wrap (broadcastInDim S16x1x1 ![0] bcast_S16_S16x1x1_0 i))))
    (Host.gather gather_S16x16384x3_S16x1x1_S16x1x3_2_1_0_0_1_2_113 x (wrap (broadcastInDim S16x1x1 ![0] bcast_S16_S16x1x1_0 i)))
    (broadcastInDim S16x1x3 ![] bcast_S_S16x1x3 (constant S_ .f32 0x7FC00000#32))

/-- The distances after a step. -/
def newD (x : FVec F S16x16384x3 .f32) (d : FVec F S16x16384 .f32) (c : FVec F S16x1x3 .f32) : FVec F S16x16384 .f32 :=
  minimumf d (Host.reduceAdd
    (mulf (subf x (broadcastInDim S16x16384x3 ![0, 1, 2] bcast_S16x1x3_S16x16384x3_0_1_2 c))
      (subf x (broadcastInDim S16x16384x3 ![0, 1, 2] bcast_S16x1x3_S16x16384x3_0_1_2 c)))
    (constant S_ .f32 0x00000000#32) reducesTo_S16x16384x3_S16x16384_d2 h_S_)

/-- The index of the farthest point. -/
def farI (d : FVec F S16x16384 .f32) : IVec S16 32 := fun j =>
  (Host.argReduce reducer_argmax_f32_i32 d (iotaInDim S16x16384 32 1) (constant S_ .f32 0xFF800000#32) (constantI S_ 32 0#32)
    reducesTo_S16x16384_S16_d1 h_S_ j).2

/-- The results with one more column. -/
def putI (o : IVec S16x2048 32) (k : IVec S_ 32) (i : IVec S16 32) : IVec S16x2048 32 :=
  Host.scatter scatter_S16x2048_S1_S16_0_1_1_0 (fun _ b => b) o
    (broadcastInDim S1 ![] bcast_S_S1 (select (cmpi .slt k (constantI S_ 32 0#32)) (addi k (constantI S_ 32 2048#32)) k)) i

variable (W : Valuation τ sig (Elt F))

theorem trip_x : (after (bodyI (F := F)).flatten (after condOps W) (Proc.devRef .tc main_v3_0) : FVec F S16x16384x3 .f32) = W (Proc.devRef .tc main_v3_0) := by
  after_reads_simp

theorem trip_k : (after (bodyI (F := F)).flatten (after condOps W) (Proc.devRef .tc main_v3_2) : IVec S_ 32)
    = addi (W (Proc.devRef .tc main_v3_2) : IVec S_ 32) (constantI S_ 32 1#32) := by
  after_reads_simp
  rfl

theorem trip_o : (after (bodyI (F := F)).flatten (after condOps W) (Proc.devRef .tc main_v3_3) : IVec S16x2048 32)
    = putI (W (Proc.devRef .tc main_v3_3)) (W (Proc.devRef .tc main_v3_2)) (W (Proc.devRef .tc main_v3_5)) := by
  after_reads_simp
  chain_rfl

theorem trip_d : (after (bodyI (F := F)).flatten (after condOps W) (Proc.devRef .tc main_v3_4) : FVec F S16x16384 .f32)
    = newD (W (Proc.devRef .tc main_v3_0)) (W (Proc.devRef .tc main_v3_4)) (taken (W (Proc.devRef .tc main_v3_0)) (W (Proc.devRef .tc main_v3_5))) := by
  after_reads_simp
  rfl

theorem trip_i : (after (bodyI (F := F)).flatten (after condOps W) (Proc.devRef .tc main_v3_5) : IVec S16 32)
    = farI (newD (W (Proc.devRef .tc main_v3_0)) (W (Proc.devRef .tc main_v3_4)) (taken (W (Proc.devRef .tc main_v3_0)) (W (Proc.devRef .tc main_v3_5)))) := by
  after_reads_simp
  rfl

/-- The take that follows the loop. -/
def wrapAll (i : IVec S16x2048x1 32) : IVec S16x2048x1 32 :=
  select (cmpi .slt i (broadcastInDim S16x2048x1 ![] bcast_S_S16x2048x1 (constantI S_ 32 0#32)))
    (addi i (broadcastInDim S16x2048x1 ![] bcast_S_S16x2048x1 (constantI S_ 32 16384#32))) i

/-- Whether its indices name points. -/
def insideAll (i : IVec S16x2048x1 32) : IVec S16x2048 1 :=
  Host.reduce IntOp.andi
    (andi (cmpi .sge i (broadcastInDim S16x2048x1 ![] bcast_S_S16x2048x1 (constantI S_ 32 0#32)))
      (cmpi .sle i (broadcastInDim S16x2048x1 ![0, 1, 2] bcast_S1x1x1_S16x2048x1_0_1_2
        (broadcastInDim S1x1x1 ![2] bcast_S1_S1x1x1_2 (constantI S1 32 16383#32)))))
    (constantI S_ 1 1#1) reducesTo_S16x2048x1_S16x2048_d2 h_S_

/-- The points it takes. -/
def takenAll (x : FVec F S16x16384x3 .f32) (i : IVec S16x2048 32) : FVec F S16x2048x3 .f32 :=
  select (broadcastInDim S16x2048x3 ![0, 1] bcast_S16x2048_S16x2048x3_0_1 (insideAll (wrapAll (broadcastInDim S16x2048x1 ![0, 1] bcast_S16x2048_S16x2048x1_0_1 i))))
    (Host.gather gather_S16x16384x3_S16x2048x1_S16x2048x3_2_1_0_0_1_2_113 x (wrapAll (broadcastInDim S16x2048x1 ![0, 1] bcast_S16x2048_S16x2048x1_0_1 i)))
    (broadcastInDim S16x2048x3 ![] bcast_S_S16x2048x3 (constant S_ .f32 0x7FC00000#32))

theorem post_out : (after (postI (F := F)).flatten (after condOps W) (Proc.devRef .tc main_v5) : FVec F S16x2048x3 .f32)
    = takenAll (W (Proc.devRef .tc main_arg0)) (W (Proc.devRef .tc main_v3_3)) := by
  after_reads_simp
  rfl

theorem pre_x : (after (preOps (F := F)) W (Proc.devRef .tc main_v3_0) : FVec F S16x16384x3 .f32) = W (Proc.devRef .tc main_arg0) := by
  after_reads_simp
  rfl

theorem pre_k : (after (preOps (F := F)) W (Proc.devRef .tc main_v3_2) : IVec S_ 32) = constantI S_ 32 0#32 := by
  after_reads_simp
  rfl

theorem pre_d : (after (preOps (F := F)) W (Proc.devRef .tc main_v3_4) : FVec F S16x16384 .f32)
    = broadcastInDim S16x16384 ![] bcast_S_S16x16384 (constant S_ .f32 0x501502F9#32) := by
  after_reads_simp
  rfl

theorem pre_i : (after (preOps (F := F)) W (Proc.devRef .tc main_v3_5) : IVec S16 32)
    = broadcastInDim S16 ![] bcast_S_S16 (constantI S_ 32 0#32) := by
  after_reads_simp
  rfl

end Ops

end Cert.ReferenceIdeal.Fps
-- ==== Proof.RTake.lean ====
/- A take along an axis under a batch axis, read at an index; and the fold that finds the greatest of a list with its index. -/
module

public import proofs.«01_k».proof.Proof.RValue
public import Idealize.ShloMosaic.Lib.ValueIdxCore
public import Idealize.ShloMosaic.Init

@[expose] public section

set_option maxRecDepth 16384

noncomputable section

namespace Cert.ReferenceIdeal.Fps

open Cert.ReferenceIdeal Cert.ReferenceIdeal.Gen
open Idealize.ShloMosaic Idealize.ShloMosaic.TcCoe
open Farthest (dd big far next away idx Uniq)

section Take
variable {B N M C w : ℕ} {α : Type}

/-- A take along the middle axis, one index per batch and place. -/
def takeDims (B N M C : ℕ) (wf : GatherDims.WF ⟨3, ![B, N, C]⟩ ⟨3, ![B, M, 1]⟩ ⟨3, ![B, M, C]⟩ [2] [1] [0] [1] [0] 2 ![1, 1, C]) :
    GatherDims ⟨3, ![B, N, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ![1, 1, C]
  wf := wf

theorem ne_val {a b : ℕ} (h : a ≠ b) (e : a = b) : False := h e

theorem gather_apply (hN : 0 < N)
    (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (i : IVec ⟨3, ![B, M, 1]⟩ w) (b : Fin B) (s : Fin M) (c : Fin C) :
    Host.gather (takeDims B N M C wf) x i (ix3 b s c)
      = x (ix3 b ⟨min (i (ix3 b s 0)).toInt.toNat (N - 1), by omega⟩ c) := by
  unfold Host.gather
  congr 1
  funext a
  refine Fin.ext ?_
  show (takeDims B N M C wf).start (ix3 b s c) i a + (takeDims B N M C wf).batchCoord (ix3 b s c) a
      + (takeDims B N M C wf).offCoord (ix3 b s c) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (takeDims B N M C wf).operandBatchingDims from List.mem_singleton.mpr rfl)]
    rfl
  · rw [GatherDims.batchCoord_eq_zero _ _ _ (fun h => ne_val (a := 1) (b := 0) (by decide) (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeDims B N M C wf).startIndexMap from List.mem_singleton.mpr rfl)]
    have hsi : (takeDims B N M C wf).siIdx (ix3 b s c) ⟨List.idxOf (1 : Fin 3) (takeDims B N M C wf).startIndexMap,
        List.idxOf_lt_length_iff.2 (List.mem_singleton.mpr rfl)⟩ = ix3 b s 0 := by
      funext e; refine Fin.ext ?_
      match e with
      | ⟨0, _⟩ => rfl
      | ⟨1, _⟩ => rfl
      | ⟨2, _⟩ => rfl
    rw [hsi]
    rfl
  · rw [GatherDims.batchCoord_eq_zero _ _ _ (fun h => ne_val (a := 2) (b := 0) (by decide) (congrArg Fin.val (List.mem_singleton.mp h)))]
    unfold GatherDims.start
    rw [dif_neg (show (2 : Fin 3) ∉ (takeDims B N M C wf).startIndexMap from fun h => ne_val (a := 2) (b := 1) (by decide) (congrArg Fin.val (List.mem_singleton.mp h)))]
    simp only [Nat.zero_add]
    have hk : (2 : Fin 3) ∈ (takeDims B N M C wf).sKept := (GatherDims.mem_sKept _ _).mpr ⟨fun h => ne_val (a := 2) (b := 1) (by decide) (congrArg Fin.val (List.mem_singleton.mp h)), fun h => ne_val (a := 2) (b := 0) (by decide) (congrArg Fin.val (List.mem_singleton.mp h))⟩
    unfold GatherDims.offCoord
    rw [dif_pos hk]
    rfl

end Take

/-! ## The greatest of a list with its index -/

/-- The reducer keeps one of its two pairs, of the greater value. -/
theorem reducer_cases (a b : EReal × BitVec 32) :
    (reducer_argmax_f32_i32 (F := Ideal) a b = a ∨ reducer_argmax_f32_i32 (F := Ideal) a b = b)
      ∧ a.1 ≤ (reducer_argmax_f32_i32 (F := Ideal) a b).1 ∧ b.1 ≤ (reducer_argmax_f32_i32 (F := Ideal) a b).1 := by
  obtain ⟨a, i⟩ := a
  obtain ⟨b, j⟩ := b
  unfold reducer_argmax_f32_i32
  simp only [Ideal.cmpf_def, Ideal.cmp, ne_eq, not_true_eq_false, decide_false]
  rcases lt_trichotomy a b with h | h | h
  · rw [decide_eq_false (not_lt.mpr h.le), decide_eq_false h.ne]
    exact ⟨Or.inr (by simp [Scalar.select, IntOp.ori, IntOp.andi]), by simpa [Scalar.select, IntOp.ori] using h.le⟩
  · subst h
    rw [decide_eq_false (lt_irrefl _), decide_eq_true rfl]
    refine ⟨?_, by simp [Scalar.select, IntOp.ori]⟩
    by_cases hs : i.slt j
    · exact Or.inl (by simp [Scalar.select, IntOp.ori, IntOp.andi, IntOp.cmpi, hs])
    · exact Or.inr (by simp [Scalar.select, IntOp.ori, IntOp.andi, IntOp.cmpi, hs])
  · rw [decide_eq_true h, decide_eq_false h.ne']
    exact ⟨Or.inl (by simp [Scalar.select, IntOp.ori, IntOp.andi]), by simpa [Scalar.select, IntOp.ori] using h.le⟩

theorem foldl_reducer (L : List (EReal × BitVec 32)) (a : EReal × BitVec 32) :
    (L.foldl (reducer_argmax_f32_i32 (F := Ideal)) a = a ∨ L.foldl (reducer_argmax_f32_i32 (F := Ideal)) a ∈ L)
      ∧ a.1 ≤ (L.foldl (reducer_argmax_f32_i32 (F := Ideal)) a).1
      ∧ ∀ q ∈ L, q.1 ≤ (L.foldl (reducer_argmax_f32_i32 (F := Ideal)) a).1 := by
  induction L generalizing a with
  | nil => exact ⟨Or.inl rfl, le_rfl, fun q h => absurd h List.not_mem_nil⟩
  | cons p L ih =>
    rw [List.foldl_cons]
    obtain ⟨h1, h2, h3⟩ := ih (reducer_argmax_f32_i32 (F := Ideal) a p)
    obtain ⟨c1, c2, c3⟩ := reducer_cases a p
    refine ⟨?_, c2.trans h2, fun q hq => ?_⟩
    · rcases h1 with h1 | h1
      · rcases c1 with c1 | c1
        · exact Or.inl (h1.trans c1)
        · exact Or.inr (by rw [h1, c1]; exact List.mem_cons_self)
      · exact Or.inr (List.mem_cons_of_mem _ h1)
    · rcases List.mem_cons.mp hq with rfl | hq
      · exact c3.trans h2
      · exact h3 q hq

/-- The index found is a point's, and no distance exceeds that point's. -/
theorem farI_apply (d : FVec Ideal S16x16384 .f32) (b : Fin 16) (hd : ∀ n : Fin 16384, 0 ≤ (d (ix2 b n) : EReal)) :
    ∃ n : Fin 16384, farI (F := Ideal) d (ix1 b) = BitVec.ofNat 32 n.val ∧ ∀ m : Fin 16384, (d (ix2 b m) : EReal) ≤ d (ix2 b n) := by
  unfold farI
  rw [Ideal.argReduce_eq_reduce2, Host.reduce2_eq_foldl_fiber]
  obtain ⟨h1, h2, h3⟩ := foldl_reducer (Host.argReduceFiber d (iotaInDim S16x16384 32 1) reducesTo_S16x16384_S16_d1 (ix1 b))
    (constant (F := Ideal) S_ .f32 0xFF800000#32 (Shape.Idx.first h_S_), constantI S_ 32 0#32 (Shape.Idx.first h_S_))
  have hin : ∀ m : Fin 16384, (d (ix2 b m), BitVec.ofNat 32 m.val) ∈ Host.argReduceFiber d (iotaInDim S16x16384 32 1) reducesTo_S16x16384_S16_d1 (ix1 b) := by
    intro m
    refine List.mem_map.mpr ⟨S16x16384.rowMajor (ix2 b m), List.mem_filter.mpr ⟨List.mem_finRange _, decide_eq_true ?_⟩, ?_⟩
    · rw [Equiv.symm_apply_apply]
      funext e
      match e with
      | ⟨0, _⟩ => rfl
    · rw [Equiv.symm_apply_apply]; rfl
  generalize hv : List.foldl _ _ _ = v at h1 h2 h3 ⊢
  rcases h1 with h1 | h1
  · exfalso
    have := (hd 0).trans (h3 _ (hin 0))
    rw [h1] at this
    exact absurd (this.trans_eq (show constant (F := Ideal) S_ .f32 0xFF800000#32 (Shape.Idx.first h_S_) = ⊥ from Farthest.ofBits_bot)) (by simp)
  · obtain ⟨r, hr, rfl⟩ := List.mem_map.mp h1
    have hdrop := of_decide_eq_true (List.mem_filter.mp hr).2
    generalize S16x16384.rowMajor.symm r = i at hdrop h3 ⊢
    obtain ⟨n, rfl⟩ : ∃ n : Fin 16384, i = ix2 b n := ⟨i 1, by
      funext e
      match e with
      | ⟨0, _⟩ => exact congrFun hdrop 0
      | ⟨1, _⟩ => rfl⟩
    exact ⟨n, rfl, fun m => h3 _ (hin m)⟩

/-! ## The rest -/

theorem putI_apply (o : IVec S16x2048 32) (k : ℕ) (hk : k < 2048) (i : IVec S16 32) (b : Fin 16) (s : Fin 2048) :
    putI o (fun _ => BitVec.ofNat 32 k) i (ix2 b s) = if s.val = k then i (ix1 b) else o (ix2 b s) := by
  unfold putI
  have e : ∀ j, (broadcastInDim S1 ![] bcast_S_S1 (select (cmpi .slt (fun _ => BitVec.ofNat 32 k) (constantI S_ 32 0#32)) (addi (fun _ => BitVec.ofNat 32 k) (constantI S_ 32 2048#32)) (fun _ => BitVec.ofNat 32 k)) : IVec S1 32) j = BitVec.ofNat 32 k := by
    intro j
    show Scalar.select (BitVec.ofBool ((BitVec.ofNat 32 k).slt 0#32)) _ (BitVec.ofNat 32 k) = _
    have : (BitVec.ofNat 32 k).slt 0#32 = false := by
      rw [BitVec.slt_eq_decide, StableHlo.Predicate.toInt_ofNat_small _ (by omega)]
      exact decide_eq_false (by simp)
    rw [this]; rfl
  have h := Routing.scatter_col scatter_S16x2048_S1_S16_0_1_1_0 rfl rfl o _ i ⟨k, hk⟩ (by show k < _; omega) (e _) b s
  refine h.trans ?_
  simp only [Fin.ext_iff]
  rfl

end Cert.ReferenceIdeal.Fps
-- ==== Proof.RMean.lean ====
/- The reference over the extended reals: its loop is the sampling, and its result the sampled points. -/
module

public import proofs.«01_k».proof.Proof.RTake
public import Idealize.ShloMosaic.Init

@[expose] public section

set_option maxRecDepth 16384

noncomputable section

namespace Cert.ReferenceIdeal.Fps

open Cert.ReferenceIdeal Cert.ReferenceIdeal.Gen
open Idealize.ShloMosaic Idealize.ShloMosaic.TcCoe
open Idealize.ShloMosaic.StableHlo (after)
open Farthest (dd big far next away idx Uniq)

/-- The points of a batch. -/
def pt (x : FVec Ideal S16x16384x3 .f32) (b : Fin 16) (n : Fin 16384) (j : Fin 3) : EReal := x (ix3 b n j)

theorem newD_apply (x : FVec Ideal S16x16384x3 .f32) (d : FVec Ideal S16x16384 .f32) (c : FVec Ideal S16x1x3 .f32) (b : Fin 16) (n : Fin 16384) :
    newD x d c (ix2 b n) = min (d (ix2 b n)) (dd (pt x b n) fun j => c (ix3 b 0 j)) := by
  unfold newD
  pointwise
  rfl

/-- A word below 16384 is not negative and is in range. -/
theorem word_ok (n : Fin 16384) : (BitVec.ofNat 32 n.val).toInt = (n.val : ℤ) :=
  StableHlo.Predicate.toInt_ofNat_small _ (by omega)

theorem word_wrap (n : Fin 16384) (z : BitVec 32) : Scalar.select (IntOp.cmpi .slt (BitVec.ofNat 32 n.val) 0#32) z (BitVec.ofNat 32 n.val) = BitVec.ofNat 32 n.val := by
  have : (BitVec.ofNat 32 n.val).slt 0#32 = false := by
    rw [BitVec.slt_eq_decide, word_ok]
    exact decide_eq_false (by simp)
  show Scalar.select (BitVec.ofBool ((BitVec.ofNat 32 n.val).slt 0#32)) _ _ = _
  rw [this]; rfl

theorem word_inside (n : Fin 16384) :
    IntOp.andi (IntOp.cmpi .sge (BitVec.ofNat 32 n.val) 0#32) (IntOp.cmpi .sle (BitVec.ofNat 32 n.val) 16383#32) = 1#1 := by
  have h1 : (0#32).sle (BitVec.ofNat 32 n.val) = true := by
    rw [BitVec.sle_eq_decide, word_ok]
    exact decide_eq_true (by simp)
  have h2 : (BitVec.ofNat 32 n.val).sle 16383#32 = true := by
    rw [BitVec.sle_eq_decide, word_ok]
    exact decide_eq_true (by rw [show (16383#32).toInt = 16383 from by decide]; omega)
  show IntOp.andi (BitVec.ofBool ((0#32).sle _)) (BitVec.ofBool ((BitVec.ofNat 32 n.val).sle _)) = _
  rw [h1, h2]; rfl

theorem wrap_apply (i : IVec S16x1x1 32) (b : Fin 16) (n : Fin 16384) (h : i (ix3 b 0 0) = BitVec.ofNat 32 n.val) :
    wrap i (ix3 b 0 0) = BitVec.ofNat 32 n.val := by
  unfold wrap
  pointwise
  rw [h, word_wrap]

theorem fold_one (f : Fin 1 → BitVec 1) (h : f 0 = 1#1) : Finset.fold IntOp.andi (1#1) f Finset.univ = 1#1 := by
  rw [Finset.univ_unique, Finset.fold_singleton]
  show IntOp.andi (f 0) 1#1 = 1#1
  rw [h]; rfl

theorem inside_apply (i : IVec S16x1x1 32) (b : Fin 16) (n : Fin 16384) (h : i (ix3 b 0 0) = BitVec.ofNat 32 n.val) :
    inside i (ix2 b 0) = 1#1 := by
  unfold inside
  pointwise
  refine fold_one _ ?_
  rw [h, word_inside]

/-- The row that a take at a word below 16384 reads. -/
theorem row_eq (w : BitVec 32) (n : Fin 16384) (h : w = BitVec.ofNat 32 n.val) (hlt : min w.toInt.toNat (16384 - 1) < 16384) :
    (⟨min w.toInt.toNat (16384 - 1), hlt⟩ : Fin 16384) = n := by
  subst h
  refine Fin.ext ?_
  show min _ _ = _
  rw [word_ok]
  have := n.isLt
  rw [Int.toNat_natCast]
  omega

theorem taken_apply (x : FVec Ideal S16x16384x3 .f32) (i : IVec S16 32) (b : Fin 16) (n : Fin 16384) (h : i (ix1 b) = BitVec.ofNat 32 n.val) (j : Fin 3) :
    taken x i (ix3 b 0 j) = pt x b n j := by
  have hi : (broadcastInDim S16x1x1 ![0] bcast_S16_S16x1x1_0 i : IVec S16x1x1 32) (ix3 b 0 0) = BitVec.ofNat 32 n.val := by
    pointwise
    exact h
  unfold taken
  pointwise
  generalize (broadcastInDim S16x1x1 ![0] bcast_S16_S16x1x1_0 i : IVec S16x1x1 32) = v at hi ⊢
  have hw := wrap_apply v b n hi
  generalize wrap v = v at hw ⊢
  rw [inside_apply v b n hw]
  refine (gather_apply (by norm_num) gather_S16x16384x3_S16x1x1_S16x1x3_2_1_0_0_1_2_113_wf x v b 0 j).trans ?_
  rw [row_eq _ n hw]
  rfl

theorem wrapAll_apply (i : IVec S16x2048x1 32) (b : Fin 16) (s : Fin 2048) (n : Fin 16384) (h : i (ix3 b s 0) = BitVec.ofNat 32 n.val) :
    wrapAll i (ix3 b s 0) = BitVec.ofNat 32 n.val := by
  unfold wrapAll
  pointwise
  rw [h, word_wrap]

theorem insideAll_apply (i : IVec S16x2048x1 32) (b : Fin 16) (s : Fin 2048) (n : Fin 16384) (h : i (ix3 b s 0) = BitVec.ofNat 32 n.val) :
    insideAll i (ix2 b s) = 1#1 := by
  unfold insideAll
  pointwise
  refine fold_one _ ?_
  rw [h, word_inside]

theorem takenAll_apply (x : FVec Ideal S16x16384x3 .f32) (i : IVec S16x2048 32) (b : Fin 16) (s : Fin 2048) (n : Fin 16384)
    (h : i (ix2 b s) = BitVec.ofNat 32 n.val) (j : Fin 3) : takenAll x i (ix3 b s j) = pt x b n j := by
  have hi : (broadcastInDim S16x2048x1 ![0, 1] bcast_S16x2048_S16x2048x1_0_1 i : IVec S16x2048x1 32) (ix3 b s 0) = BitVec.ofNat 32 n.val := by
    pointwise
    exact h
  unfold takenAll
  pointwise
  generalize (broadcastInDim S16x2048x1 ![0, 1] bcast_S16x2048_S16x2048x1_0_1 i : IVec S16x2048x1 32) = v at hi ⊢
  have hw := wrapAll_apply v b s n hi
  generalize wrapAll v = v at hw ⊢
  rw [insideAll_apply v b s n hw]
  refine (gather_apply (by norm_num) gather_S16x16384x3_S16x2048x1_S16x2048x3_2_1_0_0_1_2_113_wf x v b s j).trans ?_
  rw [row_eq _ n hw]
  rfl

/-! ## The loop -/

variable (m : (ℓ : Loc nD τ sig) → Buf (Elt Ideal) ℓ) (c : Dev nD)

/-- The reference's argument. -/
abbrev arg : FVec Ideal S16x16384x3 .f32 := m ((c.tc : Thread nD τ).loc main_arg0)

/-- After `k` trips the carried values are the sampling's. -/
theorem carried (b : Fin 16) (hu : Uniq (pt (arg m c) b)) (k : ℕ) (hk : k ≤ 2048) :
    (Wk m k c (Proc.devRef .tc main_v3_0) : FVec Ideal S16x16384x3 .f32) = arg m c
      ∧ (Wk m k c (Proc.devRef .tc main_v3_2) : IVec S_ 32) = (fun _ => BitVec.ofNat 32 k)
      ∧ (∀ n, (Wk m k c (Proc.devRef .tc main_v3_4) : FVec Ideal S16x16384 .f32) (ix2 b n) = away (pt (arg m c) b) k n)
      ∧ (Wk m k c (Proc.devRef .tc main_v3_5) : IVec S16 32) (ix1 b) = BitVec.ofNat 32 (idx (pt (arg m c) b) k).val
      ∧ ∀ s : Fin 2048, s.val < k → (Wk m k c (Proc.devRef .tc main_v3_3) : IVec S16x2048 32) (ix2 b s) = BitVec.ofNat 32 (idx (pt (arg m c) b) s.val).val := by
  induction k with
  | zero =>
    have e : Wk m 0 c = after (preOps (F := Ideal)) (StableHlo.launchContents m c) := rfl
    rw [e]
    refine ⟨pre_x _, pre_k _, fun n => ?_, ?_, fun s hs => absurd hs (Nat.not_lt_zero _)⟩
    · rw [pre_d]; pointwise; rfl
    · rw [pre_i]; pointwise; rfl
  | succ k ih =>
    obtain ⟨hx, hc, hd, hi, ho⟩ := ih (by omega)
    rw [Wk_succ]
    generalize Wk m k c = W at hx hc hd hi ho ⊢
    have hD : ∀ n, newD (F := Ideal) (W (Proc.devRef .tc main_v3_0)) (W (Proc.devRef .tc main_v3_4))
        (taken (F := Ideal) (W (Proc.devRef .tc main_v3_0)) (W (Proc.devRef .tc main_v3_5))) (ix2 b n) = away (pt (arg m c) b) (k + 1) n := by
      intro n
      rw [newD_apply, hd, Farthest.away_succ, hx]
      unfold next
      exact congrArg (min _) (congrArg (dd _) (funext fun j => taken_apply _ _ b _ hi j))
    refine ⟨(trip_x W).trans hx, ?_, fun n => ?_, ?_, fun s hs => ?_⟩
    · rw [trip_k, hc]
      funext i
      show BitVec.ofNat 32 k + 1#32 = _
      rw [BitVec.ofNat_add]
    · rw [trip_d]; exact hD n
    · rw [trip_i]
      obtain ⟨n, hn, hm⟩ := farI_apply (newD (F := Ideal) (W (Proc.devRef .tc main_v3_0)) (W (Proc.devRef .tc main_v3_4))
        (taken (F := Ideal) (W (Proc.devRef .tc main_v3_0)) (W (Proc.devRef .tc main_v3_5)))) b (fun n => by rw [hD]; exact Farthest.away_pos _ _ _)
      rw [hn]
      refine congrArg (fun n : Fin 16384 => BitVec.ofNat 32 n.val) (hu k (by omega) n fun q => ?_)
      rw [← hD, ← hD]; exact hm q
    · rw [trip_o, hc]
      refine (putI_apply _ k (by omega) _ b s).trans ?_
      split
      · next e => rw [hi, e]
      · next e => exact ho s (by omega)

/-- The reference's result: the sampled points. -/
theorem result (b : Fin 16) (hu : Uniq (pt (arg m c) b)) (s : Fin 2048) (j : Fin 3) :
    (StableHlo.finalContents condOps preI bodyI postI 2048 m c (Proc.devRef .tc main_v5) : FVec Ideal S16x2048x3 .f32) (ix3 b s j)
      = pt (arg m c) b (idx (pt (arg m c) b) s.val) j := by
  rw [final_eq, post_out]
  rw [takenAll_apply _ _ b s _ ((carried m c b hu 2048 le_rfl).2.2.2.2 s s.isLt) j, Wk_arg0]

end Cert.ReferenceIdeal.Fps
-- ==== Proof.PDecode.lean ====
/- The precondition, read back as 2048 rounds of one step. -/
module

public import proofs.«01_k».proof.Proof.Gen.Pre_no_tie
public import proofs.«01_k».proof.Defs
public import Idealize.ShloMosaic.Lib.Pipeline.Regions
public import Idealize.ShloMosaic.Init

@[expose] public section

set_option maxRecDepth 16384

noncomputable section

namespace Cert.Pre_no_tie.Fps

open Cert.Pre_no_tie Cert.Pre_no_tie.Gen
open Idealize.ShloMosaic

variable {F : FTy → Type} [FloatOps F]

/-- The predicate's state: the distances, the current points, and whether every choice so far was unique. -/
abbrev St (F : FTy → Type) : Type := FVec F S16x16384 .f32 × FVec F S16x1x3 .f32 × IVec S16 1

/-- The distances after a step. -/
def stepD (x : FVec F S16x16384x3 .f32) (d : FVec F S16x16384 .f32) (c : FVec F S16x1x3 .f32) : FVec F S16x16384 .f32 :=
  minimumf d (Host.reduceAdd
    (mulf (subf x (broadcastInDim S16x16384x3 ![0, 1, 2] bcast_S16x1x3_S16x16384x3_0_1_2 c))
      (subf x (broadcastInDim S16x16384x3 ![0, 1, 2] bcast_S16x1x3_S16x16384x3_0_1_2 c)))
    (constant S_ .f32 0x00000000#32) reducesTo_S16x16384x3_S16x16384_d2 h_S_)

/-- The points at which the distance is the greatest. -/
def farAt (d : FVec F S16x16384 .f32) : IVec S16x16384 1 :=
  cmpf .oeq d (broadcastInDim S16x16384 ![0, 1] bcast_S16x1_S16x16384_0_1
    (broadcastInDim S16x1 ![0] bcast_S16_S16x1_0
      (Host.reduce FloatOps.maximumf d (constant S_ .f32 0xFF800000#32) reducesTo_S16x16384_S16_d1 h_S_)))

/-- Whether there is one such point in every batch. -/
def oneFar (w : IVec S16x16384 1) : IVec S16 1 :=
  cmpi .eq (Host.reduce IntOp.addi (extui 32 w natLt_1_32) (constantI S_ 32 0#32) reducesTo_S16x16384_S16_d1 h_S_)
    (broadcastInDim S16 ![] bcast_S_S16 (constantI S_ 32 1#32))

/-- Its coordinates. -/
def farPt (x : FVec F S16x16384x3 .f32) (w : IVec S16x16384 1) : FVec F S16x1x3 .f32 :=
  broadcastInDim S16x1x3 ![0, 2] bcast_S16x3_S16x1x3_0_2
    (Host.reduce FloatOps.maximumf
      (select (broadcastInDim S16x16384x3 ![0, 1] bcast_S16x16384_S16x16384x3_0_1 w) x
        (broadcastInDim S16x16384x3 ![] bcast_S_S16x16384x3 (constant S_ .f32 0xFF800000#32)))
      (constant S_ .f32 0xFF800000#32) reducesTo_S16x16384x3_S16x3_d1 h_S_)

/-- One step of the predicate. -/
def step (x : FVec F S16x16384x3 .f32) (s : St F) : St F :=
  (stepD x s.1 s.2.1, farPt x (farAt (stepD x s.1 s.2.1)), andi s.2.2 (oneFar (farAt (stepD x s.1 s.2.1))))

/-- Sixteen steps, as the predicate's outlined function takes them. -/
theorem sixteen (x : FVec F S16x16384x3 .f32) (d : FVec F S16x16384 .f32) (c : FVec F S16x1x3 .f32) (ok : IVec S16 1) :
    fn_pre_16 x d c ok = step x (step x (step x (step x (step x (step x (step x (step x
      (step x (step x (step x (step x (step x (step x (step x (step x (d, c, ok)))))))))))))))) := by
  chain_rfl

/-- The start. -/
def start (x : FVec F S16x16384x3 .f32) : St F :=
  (broadcastInDim S16x16384 ![] bcast_S_S16x16384 (constant S_ .f32 0x501502F9#32),
    extractStridedSlice S16x1x3 ![0, 0, 0] x slices_S16x16384x3_S16x1x3_0_0_0,
    broadcastInDim S16 ![] bcast_S_S16 (constantI S_ 1 1#1))

/-- Sixteen steps on a state. -/
def many (x : FVec F S16x16384x3 .f32) (s : St F) : St F := fn_pre_16 x s.1 s.2.1 s.2.2

theorem many_eq (x : FVec F S16x16384x3 .f32) (s : St F) : many x s = (step x)^[16] s := sixteen x s.1 s.2.1 s.2.2

theorem fn_many (x : FVec F S16x16384x3 .f32) : fn x = ((many x)^[128] (start x)).2.2 := by
  chain_rfl

/-- The predicate is the last component after 2048 steps. -/
theorem fn_eq (x : FVec F S16x16384x3 .f32) : fn x = ((step x)^[2048] (start x)).2.2 := by
  rw [fn_many, show many x = (step x)^[16] from funext (many_eq x), ← Function.iterate_mul]

end Cert.Pre_no_tie.Fps
-- ==== Proof.PValue.lean ====
/- The precondition over the extended reals: where it holds, no step of the sampling has two farthest points. -/
module

public import proofs.«01_k».proof.Proof.PDecode
public import proofs.«01_k».proof.Proof.Spec
public import Idealize.ShloMosaic.Init

@[expose] public section

set_option maxRecDepth 16384

noncomputable section

namespace Cert.Pre_no_tie.Fps

open Cert.Pre_no_tie Cert.Pre_no_tie.Gen
open Idealize.ShloMosaic
open Farthest (dd big far next away idx Uniq)

/-- The points of a batch. -/
def pt (x : FVec Ideal S16x16384x3 .f32) (b : Fin 16) (n : Fin 16384) (j : Fin 3) : EReal := x (ix3 b n j)

theorem stepD_apply (x : FVec Ideal S16x16384x3 .f32) (d : FVec Ideal S16x16384 .f32) (c : FVec Ideal S16x1x3 .f32) (b : Fin 16) (n : Fin 16384) :
    stepD x d c (ix2 b n) = min (d (ix2 b n)) (dd (pt x b n) fun j => c (ix3 b 0 j)) := by
  unfold stepD
  pointwise
  rfl

theorem farAt_apply (d : FVec Ideal S16x16384 .f32) (b : Fin 16) (n : Fin 16384) :
    farAt d (ix2 b n) = BitVec.ofBool (decide (d (ix2 b n) = Finset.univ.fold max ⊥ fun m : Fin 16384 => d (ix2 b m))) := by
  unfold farAt
  pointwise
  rw [Farthest.ofBits_bot]

theorem oneFar_apply (w : IVec S16x16384 1) (b : Fin 16) :
    oneFar w (ix1 b) = IntOp.cmpi .eq (Finset.univ.fold IntOp.addi (0#32) fun m : Fin 16384 => BitVec.setWidth 32 (w (ix2 b m))) 1#32 := by
  unfold oneFar
  pointwise

theorem farPt_apply (x : FVec Ideal S16x16384x3 .f32) (w : IVec S16x16384 1) (b : Fin 16) (j : Fin 3) :
    farPt x w (ix3 b 0 j) = Finset.univ.fold max ⊥ fun m : Fin 16384 => Scalar.select (w (ix2 b m)) (pt x b m j) ⊥ := by
  unfold farPt
  pointwise
  rw [Farthest.ofBits_bot]
  rfl

theorem start_dist (x : FVec Ideal S16x16384x3 .f32) (b : Fin 16) (n : Fin 16384) : (start x).1 (ix2 b n) = big := by
  unfold start
  dsimp only
  pointwise
  rfl

theorem start_pt (x : FVec Ideal S16x16384x3 .f32) (b : Fin 16) (j : Fin 3) : (start x).2.1 (ix3 b 0 j) = pt x b 0 j := by
  unfold start
  dsimp only
  pointwise
  rfl

theorem and_one {a b : BitVec 1} (h : IntOp.andi a b = 1#1) : a = 1#1 ∧ b = 1#1 := by
  revert a b; decide

theorem step_pt (x : FVec Ideal S16x16384x3 .f32) (d : FVec Ideal S16x16384 .f32) (c : FVec Ideal S16x1x3 .f32) (ok : IVec S16 1) :
    (step x (d, c, ok)).2.1 = farPt x (farAt (stepD x d c)) := by
  simp only [step]

/-- After `K` steps, where the flag still stands, the state is the sampling's and no choice was between two points. -/
theorem invariant (x : FVec Ideal S16x16384x3 .f32) (b : Fin 16) (K : ℕ) (hok : ((step x)^[K] (start x)).2.2 (ix1 b) = 1#1) :
    (∀ n, ((step x)^[K] (start x)).1 (ix2 b n) = away (pt x b) K n)
      ∧ (∀ j, ((step x)^[K] (start x)).2.1 (ix3 b 0 j) = pt x b (idx (pt x b) K) j)
      ∧ ∀ k < K, ∀ n, (∀ m, away (pt x b) (k + 1) m ≤ away (pt x b) (k + 1) n) → n = idx (pt x b) (k + 1) := by
  induction K with
  | zero => exact ⟨start_dist x b, start_pt x b, fun k hk => absurd hk (Nat.not_lt_zero k)⟩
  | succ K ih =>
    rw [Function.iterate_succ_apply'] at hok ⊢
    generalize (step x)^[K] (start x) = s at ih hok ⊢
    obtain ⟨d, c, ok⟩ := s
    obtain ⟨hok₀, h1⟩ := and_one (show IntOp.andi (ok (ix1 b)) (oneFar (farAt (stepD x d c)) (ix1 b)) = 1#1 from hok)
    obtain ⟨hd, hc, hu⟩ := ih hok₀
    have hD : ∀ n, stepD x d c (ix2 b n) = away (pt x b) (K + 1) n := by
      intro n
      rw [stepD_apply, Farthest.away_succ]
      unfold next
      rw [← hd n]
      exact congrArg (min _) (congrArg (dd _) (funext hc))
    rw [oneFar_apply] at h1
    have h1' := count_of (w := fun m => farAt (stepD x d c) (ix2 b m)) h1
    obtain ⟨i, hi⟩ := h1'
    have hfar : ∀ m, farAt (stepD x d c) (ix2 b m) = 1#1 ↔ ∀ n, away (pt x b) (K + 1) n ≤ away (pt x b) (K + 1) m := by
      intro m
      rw [farAt_apply, show (fun m : Fin 16384 => stepD x d c (ix2 b m)) = away (pt x b) (K + 1) from funext hD, hD m]
      constructor
      · intro h n
        have e : away (pt x b) (K + 1) m = Finset.univ.fold max ⊥ (away (pt x b) (K + 1)) := by
          by_contra hne
          rw [decide_eq_false hne] at h
          exact absurd h (by decide)
        rw [e]; exact Farthest.le_fold_max _ n
      · intro h
        rw [Farthest.fold_max_eq _ m h, decide_eq_true rfl]; rfl
    have hidx : farAt (stepD x d c) (ix2 b (idx (pt x b) (K + 1))) = 1#1 := (hfar _).mpr (Farthest.idx_max _ _)
    have hiu : ∀ m, farAt (stepD x d c) (ix2 b m) = 1#1 → m = idx (pt x b) (K + 1) := fun m hm =>
      ((hi m).mp hm).trans ((hi _).mp hidx).symm
    refine ⟨hD, fun j => ?_, fun k hk n hn => ?_⟩
    · rw [step_pt, farPt_apply]
      generalize farAt (stepD x d c) = w at hidx hiu ⊢
      exact Farthest.fold_max_pick (fun m => pt x b m j) (fun m => w (ix2 b m)) _ hidx hiu
    · rcases Nat.lt_succ_iff_lt_or_eq.mp hk with hk | rfl
      · exact hu k hk n hn
      · exact hiu n ((hfar n).mpr hn)
where
  count_of {w : Fin 16384 → BitVec 1} (h : IntOp.cmpi .eq (Finset.univ.fold IntOp.addi (0#32) fun m => BitVec.setWidth 32 (w m)) 1#32 = 1#1) :
      ∃ i, ∀ m, w m = 1#1 ↔ m = i := by
    refine Farthest.count_one (by norm_num) w ?_
    by_contra hne
    revert h
    show BitVec.ofBool (_ == _) = 1#1 → False
    rw [beq_eq_false_iff_ne.mpr hne]
    decide

/-- Where the precondition holds, every batch's choices are unique. -/
theorem uniq (x : FVec Ideal S16x16384x3 .f32) (h : fn (F := Ideal) x = fun _ => 1#1) (b : Fin 16) : Uniq (pt x b) :=
  (invariant x b 2048 (by rw [← fn_eq, h])).2.2

end Cert.Pre_no_tie.Fps
-- ==== Proof.lean ====
/- The claims: each program's run, the named constant, and the equality of the idealized kernel's result with the reference's. -/
module

public import proofs.«01_k».proof.Defs
public import proofs.«01_k».proof.Proof.KFrame
public import proofs.«01_k».proof.Proof.IFrame
public import proofs.«01_k».proof.Proof.KHost
public import proofs.«01_k».proof.Proof.RMean
public import proofs.«01_k».proof.Proof.PValue
public import proofs.«01_k».proof.Proof.Gen.Pre_no_tie
public import Idealize.ShloMosaic.Adequacy
public import Idealize.ShloMosaic.Init

@[expose] public section

set_option maxRecDepth 16384

noncomputable section

namespace Cert.Proof

open Idealize.ShloMosaic Idealize.SL.Sem

theorem kernelFrame : quiescent_Kernel (hKernel := Cert.Kernel.Gen.facts) :=
  fun m g _ => Cert.Kernel.Fps.frame m g

theorem kernelFrameNoTie : quiescent_Kernel_pre_no_tie (hKernel := Cert.Kernel.Gen.facts) (hPre_no_tie := Cert.Pre_no_tie.Gen.facts) :=
  fun m g _ => Cert.Kernel.Fps.frame m g

theorem idealFrame : quiescent_KernelIdeal (hKernelIdeal := Cert.KernelIdeal.Gen.facts) (hPre_no_tie := Cert.Pre_no_tie.Gen.facts) :=
  fun m g _ => (θ_run _ _ _).mono (fun _ h => ⟨fun c => (h.1 c).2, h.2⟩) (Cert.KernelIdeal.Fps.run m g)

theorem referenceFrame : quiescent_ReferenceIdeal (hReferenceIdeal := Cert.ReferenceIdeal.Gen.facts) :=
  fun m g _ => Cert.ReferenceIdeal.Fps.frame m g

theorem referenceFrameNoTie : quiescent_ReferenceIdeal_pre_no_tie (hReferenceIdeal := Cert.ReferenceIdeal.Gen.facts) (hPre_no_tie := Cert.Pre_no_tie.Gen.facts) :=
  fun m g _ => Cert.ReferenceIdeal.Fps.frame m g

/-- The masked-out value is named minus infinity. -/
theorem mask : preserves_Kernel_KernelIdeal :=
  IdealRules.named_const.statement _ "mask" .f32 _ _ (by first | rfl | simp [Cert.KernelIdeal.κ])

/-- Both programs end with the samples: from the first point on, each the farthest from those before it. -/
theorem equal : algebraic_KernelIdeal_ReferenceIdeal (hKernelIdeal := Cert.KernelIdeal.Gen.facts)
    (hReferenceIdeal := Cert.ReferenceIdeal.Gen.facts) (hPre_no_tie := Cert.Pre_no_tie.Gen.facts) := by
  intro m g m' g' hpre harg
  refine ⟨fun c => Cert.KernelIdeal.Fps.final m c,
    (θ_run _ _ _).mono (fun _ h c => h.1 c) (Cert.KernelIdeal.Fps.run m g),
    (θ_run _ _ _).mono (fun _ h c => ⟨(h c Cert.ReferenceIdeal.main_v5 rfl).trans ?_,
      (h c Cert.ReferenceIdeal.main_arg0 rfl).trans (Cert.ReferenceIdeal.Fps.final_arg0 m' c)⟩) (Cert.ReferenceIdeal.Fps.run m' g')⟩
  have hx : Cert.ReferenceIdeal.Fps.arg m' c = Cert.KernelIdeal.Fps.arg m c := harg c
  have hu : ∀ b, Farthest.Uniq (Cert.KernelIdeal.Fps.pt (Cert.KernelIdeal.Fps.arg m c) b) :=
    fun b => Cert.Pre_no_tie.Fps.uniq (Cert.KernelIdeal.Fps.arg m c) (hpre c) b
  funext i
  obtain ⟨b, s, j, rfl⟩ : ∃ (b : Fin 16) (s : Fin 2048) (j : Fin 3), i = ix3 b s j := ⟨i 0, i 1, i 2, by funext a; fin_cases a <;> rfl⟩
  have hu' : Farthest.Uniq (Cert.ReferenceIdeal.Fps.pt (Cert.ReferenceIdeal.Fps.arg m' c) b) :=
    (congrArg (fun x => Farthest.Uniq (Cert.ReferenceIdeal.Fps.pt x b)) hx).mpr (hu b)
  exact (Cert.ReferenceIdeal.Fps.result m' c b hu' s j).trans
    ((congrArg (fun x => Cert.ReferenceIdeal.Fps.pt x b (Farthest.idx (Cert.ReferenceIdeal.Fps.pt x b) s.val) j) hx).trans
      (Cert.KernelIdeal.Fps.result m c b (hu b) s j).symm)

theorem claim : Cert.Claim := ⟨Cert.Kernel.Gen.facts, Cert.KernelIdeal.Gen.facts, Cert.ReferenceIdeal.Gen.facts, Cert.Pre_no_tie.Gen.facts,
  kernelFrame, kernelFrameNoTie, idealFrame, referenceFrame, referenceFrameNoTie, mask, equal⟩

end Cert.Proof

end
